-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_small_KernelIdeal [hPre_small_KernelIdeal : Cert.Pre_small_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_small_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_small_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_small_ReferenceIdeal [hPre_small_ReferenceIdeal : Cert.Pre_small_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_small_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_small_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_small_KernelIdeal [hKernelIdeal : Cert.KernelIdeal.Facts] [hPre_small_KernelIdeal : Cert.Pre_small_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_small_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_small_ReferenceIdeal [hReferenceIdeal : Cert.ReferenceIdeal.Facts] [hPre_small_ReferenceIdeal : Cert.Pre_small_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_small_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_small_KernelIdeal [hKernelIdeal : Cert.KernelIdeal.Facts] [hReferenceIdeal : Cert.ReferenceIdeal.Facts] [hPre_small_KernelIdeal : Cert.Pre_small_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_small_KernelIdeal m →
    (∀ c : Dev Cert.KernelIdeal.nD,
      m ((c.tc : Thread Cert.KernelIdeal.nD Cert.KernelIdeal.τ).loc Cert.KernelIdeal.main_arg0) = Layout.block ⟨2, ![1024, 4096]⟩ ⟨2, ![4096, 4096]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 2048]⟩ ⟨2, ![4096, 8192]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 2048]⟩ ⟨2, ![4096, 8192]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_small_KernelIdeal : Cert.Pre_small_KernelIdeal.Facts) (hPre_small_ReferenceIdeal : Cert.Pre_small_ReferenceIdeal.Facts),
    quiescent_Kernel (hKernel := hKernel)
    ∧ quiescent_KernelIdeal (hKernelIdeal := hKernelIdeal)
    ∧ quiescent_KernelIdeal_pre_small_KernelIdeal (hKernelIdeal := hKernelIdeal) (hPre_small_KernelIdeal := hPre_small_KernelIdeal)
    ∧ quiescent_ReferenceIdeal (hReferenceIdeal := hReferenceIdeal)
    ∧ quiescent_ReferenceIdeal_pre_small_ReferenceIdeal (hReferenceIdeal := hReferenceIdeal) (hPre_small_ReferenceIdeal := hPre_small_ReferenceIdeal)
    ∧ preserves_Kernel_KernelIdeal
    ∧ algebraic_KernelIdeal_ReferenceIdeal_pre_small_KernelIdeal (hKernelIdeal := hKernelIdeal) (hReferenceIdeal := hReferenceIdeal) (hPre_small_KernelIdeal := hPre_small_KernelIdeal)
-- ==== Pre_small_KernelIdeal.lean ====
abbrev S1024x4096 : Shape := ⟨2, ![1024, 4096]⟩
abbrev S4096x2048 : Shape := ⟨2, ![4096, 2048]⟩
abbrev S1 : Shape := ⟨1, ![1]⟩
abbrev S_ : Shape := ⟨0, ![]⟩
abbrev S1024 : Shape := ⟨1, ![1024]⟩
abbrev S2048 : Shape := ⟨1, ![2048]⟩

class Facts : Prop where
  natLt_8_32 : 8 < 32
  reducesTo_S1024x4096_S1024_d1 : S1024x4096.ReducesTo [1] S1024
  h_S_ : 0 < S_.numel
  reducesTo_S4096x2048_S2048_d0 : S4096x2048.ReducesTo [0] S2048
  bcast_S_S1024 : S_.BroadcastsInDim S1024 (![] : Fin 0 → Fin S1024.rank)
  bcast_S_S2048 : S_.BroadcastsInDim S2048 (![] : Fin 0 → Fin S2048.rank)

variable [Facts]

def fn {F : FTy → Type} [FloatOps F] (main_arg0 : IVec S1024x4096 8) (main_arg1 : IVec S4096x2048 8) (main_arg2 : FVec F S1 .f32) (main_arg3 : FVec F S1 .f32) : IVec S1024 1 × IVec S2048 1 :=
  let main_v0 : IVec S1024x4096 32 := (extsi 32 · natLt_8_32) main_arg0
  let main_v1 : IVec S1024x4096 32 := (extsi 32 · natLt_8_32) main_arg0
  let main_v2 : IVec S1024x4096 32 := muli main_v0 main_v1
  let main_c : IVec S_ 32 := constantI S_ 32 0#32
  let main_v3 : IVec S1024 32 := (fun x v => Host.reduce IntOp.addi x v reducesTo_S1024x4096_S1024_d1 h_S_) main_v2 main_c
  let main_v4 : IVec S4096x2048 32 := (extsi 32 · natLt_8_32) main_arg1
  let main_v5 : IVec S4096x2048 32 := (extsi 32 · natLt_8_32) main_arg1
  let main_v6 : IVec S4096x2048 32 := muli main_v4 main_v5
  let main_c_0 : IVec S_ 32 := constantI S_ 32 0#32
  let main_v7 : IVec S2048 32 := (fun x v => Host.reduce IntOp.addi x v reducesTo_S4096x2048_S2048_d0 h_S_) main_v6 main_c_0
  let main_c_1 : IVec S_ 32 := constantI S_ 32 16777216#32
  let main_v8 : IVec S1024 32 := broadcastInDim S1024 ![] bcast_S_S1024 main_c_1
  let main_v9 : IVec S1024 1 := cmpi .slt main_v3 main_v8
  let main_c_2 : IVec S_ 32 := constantI S_ 32 16777216#32
  let main_v10 : IVec S2048 32 := broadcastInDim S2048 ![] bcast_S_S2048 main_c_2
  let main_v11 : IVec S2048 1 := cmpi .slt main_v7 main_v10
  (main_v9, main_v11)
-- ==== Pre_small_ReferenceIdeal.lean ====
abbrev S4096x4096 : Shape := ⟨2, ![4096, 4096]⟩
abbrev S4096x8192 : Shape := ⟨2, ![4096, 8192]⟩
abbrev S1 : Shape := ⟨1, ![1]⟩
abbrev S_ : Shape := ⟨0, ![]⟩
abbrev S4096 : Shape := ⟨1, ![4096]⟩
abbrev S8192 : Shape := ⟨1, ![8192]⟩

class Facts : Prop where
  natLt_8_32 : 8 < 32
  reducesTo_S4096x4096_S4096_d1 : S4096x4096.ReducesTo [1] S4096
  h_S_ : 0 < S_.numel
  reducesTo_S4096x8192_S8192_d0 : S4096x8192.ReducesTo [0] S8192
  bcast_S_S4096 : S_.BroadcastsInDim S4096 (![] : Fin 0 → Fin S4096.rank)
  bcast_S_S8192 : S_.BroadcastsInDim S8192 (![] : Fin 0 → Fin S8192.rank)

variable [Facts]

def fn {F : FTy → Type} [FloatOps F] (main_arg0 : IVec S4096x4096 8) (main_arg1 : IVec S4096x8192 8) (main_arg2 : FVec F S1 .f32) (main_arg3 : FVec F S1 .f32) : IVec S4096 1 × IVec S8192 1 :=
  let main_v0 : IVec S4096x4096 32 := (extsi 32 · natLt_8_32) main_arg0
  let main_v1 : IVec S4096x4096 32 := (extsi 32 · natLt_8_32) main_arg0
  let main_v2 : IVec S4096x4096 32 := muli main_v0 main_v1
  let main_c : IVec S_ 32 := constantI S_ 32 0#32
  let main_v3 : IVec S4096 32 := (fun x v => Host.reduce IntOp.addi x v reducesTo_S4096x4096_S4096_d1 h_S_) main_v2 main_c
  let main_v4 : IVec S4096x8192 32 := (extsi 32 · natLt_8_32) main_arg1
  let main_v5 : IVec S4096x8192 32 := (extsi 32 · natLt_8_32) main_arg1
  let main_v6 : IVec S4096x8192 32 := muli main_v4 main_v5
  let main_c_0 : IVec S_ 32 := constantI S_ 32 0#32
  let main_v7 : IVec S8192 32 := (fun x v => Host.reduce IntOp.addi x v reducesTo_S4096x8192_S8192_d0 h_S_) main_v6 main_c_0
  let main_c_1 : IVec S_ 32 := constantI S_ 32 16777216#32
  let main_v8 : IVec S4096 32 := broadcastInDim S4096 ![] bcast_S_S4096 main_c_1
  let main_v9 : IVec S4096 1 := cmpi .slt main_v3 main_v8
  let main_c_2 : IVec S_ 32 := constantI S_ 32 16777216#32
  let main_v10 : IVec S8192 32 := broadcastInDim S8192 ![] bcast_S_S8192 main_c_2
  let main_v11 : IVec S8192 1 := cmpi .slt main_v7 main_v10
  (main_v9, main_v11)
-- ==== Kernel.lean ====
abbrev S1024x4096 : Shape := ⟨2, ![1024, 4096]⟩
abbrev S4096x2048 : Shape := ⟨2, ![4096, 2048]⟩
abbrev S1 : Shape := ⟨1, ![1]⟩
abbrev S4x512x2048 : Shape := ⟨3, ![4, 512, 2048]⟩
abbrev S6 : Shape := ⟨1, ![6]⟩
abbrev S4 : Shape := ⟨1, ![4]⟩
abbrev S_ : Shape := ⟨0, ![]⟩
abbrev S512x4096 : Shape := ⟨2, ![512, 4096]⟩
abbrev S512x2048 : Shape := ⟨2, ![512, 2048]⟩
abbrev S1x512x2048 : Shape := ⟨3, ![1, 512, 2048]⟩

abbrev nBuf : Space → Nat
  | .hbm => 5
  | .vmem => 6
  | .smem => 2
  | _ => 0

abbrev bufTy : (tb : Table) → Fin (tcTables nBuf tb) → BufTy
  | .hbm, ⟨0, _⟩ => ⟨S1024x4096, .i8⟩
  | .hbm, ⟨1, _⟩ => ⟨S4096x2048, .i8⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S1024x4096, .i8⟩
  | .local _ .vmem, ⟨1, _⟩ => ⟨S4096x2048, .i8⟩
  | .local _ .vmem, ⟨2, _⟩ => ⟨S1024x4096, .i8⟩
  | .local _ .vmem, ⟨3, _⟩ => ⟨S1024x4096, .i8⟩
  | .local _ .vmem, ⟨4, _⟩ => ⟨S1024x4096, .i8⟩
  | .local _ .vmem, ⟨5, _⟩ => ⟨S4x512x2048, .f32⟩
  | .local _ .smem, ⟨0, _⟩ => ⟨S1, .f32⟩
  | .local _ .smem, ⟨1, _⟩ => ⟨S1, .f32⟩
  | _, _ => ⟨S1024x4096, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 1 → Bool
  | ⟨0, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 1 20 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_21 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_20 : BitVec 32 := 1#32
  let v37 : BitVec 32 := Scalar.muli v13 c1_i32_20
  let v38 : BitVec 32 := Scalar.addi c0_i32_21 v37
  v38.toNat
def k0_dev2 (d0 : Dev nD) : Nat :=
  let c0_i32_24 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_23 : BitVec 32 := 1#32
  let v39 : BitVec 32 := Scalar.muli v24 c1_i32_23
  let v40 : BitVec 32 := Scalar.addi c0_i32_24 v39
  v40.toNat
def k0_dev3 (d0 : Dev nD) : Nat :=
  let c0_i32_30 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_29 : BitVec 32 := 1#32
  let v44 : BitVec 32 := Scalar.muli v24 c1_i32_29
  let v45 : BitVec 32 := Scalar.addi c0_i32_30 v44
  v45.toNat
def k0_dev4 (d0 : Dev nD) : Nat :=
  let c0_i32_38 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_37 : BitVec 32 := 1#32
  let v52 : BitVec 32 := Scalar.muli v24 c1_i32_37
  let v53 : BitVec 32 := Scalar.addi c0_i32_38 v52
  v53.toNat
def k0_dev5 (d0 : Dev nD) : Nat :=
  let c0_i32_45 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_44 : BitVec 32 := 1#32
  let v60 : BitVec 32 := Scalar.muli v13 c1_i32_44
  let v61 : BitVec 32 := Scalar.addi c0_i32_45 v60
  v61.toNat
def k0_dev6 (d0 : Dev nD) : Nat :=
  let c0_i32_52 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_51 : BitVec 32 := 1#32
  let v68 : BitVec 32 := Scalar.muli v13 c1_i32_51
  let v69 : BitVec 32 := Scalar.addi c0_i32_52 v68
  v69.toNat
def k0_off1 (d0 : Dev nD) : Fin 2 → Nat :=
  let c2_i32_59 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v78 : BitVec 32 := Scalar.muli c2_i32_59 v2
  let c512_i32_65 : BitVec 32 := 512#32
  let v90 : BitVec 32 := Scalar.muli v78 c512_i32_65
  let c0_i32_68 : BitVec 32 := 0#32
  ![v90.toNat, 0]
def k0_off2 (d0 : Dev nD) : Fin 2 → Nat :=
  let c2_i32_72 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v98 : BitVec 32 := Scalar.muli c2_i32_72 v2
  let c1_i32_73 : BitVec 32 := 1#32
  let v99 : BitVec 32 := Scalar.addi v98 c1_i32_73
  let c512_i32_79 : BitVec 32 := 512#32
  let v111 : BitVec 32 := Scalar.muli v99 c512_i32_79
  let c0_i32_82 : BitVec 32 := 0#32
  ![v111.toNat, 0]
def k0_dev7 (d0 : Dev nD) : Nat :=
  let c0_i32_96 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_95 : BitVec 32 := 1#32
  let v123 : BitVec 32 := Scalar.muli v24 c1_i32_95
  let v124 : BitVec 32 := Scalar.addi c0_i32_96 v123
  v124.toNat
def k0_dev8 (d0 : Dev nD) : Nat :=
  let c0_i32_111 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_110 : BitVec 32 := 1#32
  let v137 : BitVec 32 := Scalar.muli v13 c1_i32_110
  let v138 : BitVec 32 := Scalar.addi c0_i32_111 v137
  v138.toNat
def k0_off3 (d0 : Dev nD) : Fin 2 → Nat :=
  let c2_i32_118 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let v146 : BitVec 32 := Scalar.muli c2_i32_118 v13
  let c512_i32_124 : BitVec 32 := 512#32
  let v158 : BitVec 32 := Scalar.muli v146 c512_i32_124
  let c0_i32_127 : BitVec 32 := 0#32
  ![v158.toNat, 0]
def k0_off4 (d0 : Dev nD) (c1_i32_6 : BitVec 32) : Fin 2 → Nat :=
  let c2_i32_132 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let v165 : BitVec 32 := Scalar.muli c2_i32_132 v24
  let c1_i32_133 : BitVec 32 := 1#32
  let v166 : BitVec 32 := Scalar.addi v165 c1_i32_133
  let c512_i32_139 : BitVec 32 := 512#32
  let v178 : BitVec 32 := Scalar.muli v166 c512_i32_139
  let c0_i32_142 : BitVec 32 := 0#32
  ![v178.toNat, 0]
def k0_off5 (d0 : Dev nD) : Fin 2 → Nat :=
  let c2_i32_163 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let v197 : BitVec 32 := Scalar.muli c2_i32_163 v13
  let c1_i32_164 : BitVec 32 := 1#32
  let v198 : BitVec 32 := Scalar.addi v197 c1_i32_164
  let c512_i32_176 : BitVec 32 := 512#32
  let v215 : BitVec 32 := Scalar.muli v198 c512_i32_176
  let c0_i32_179 : BitVec 32 := 0#32
  ![v215.toNat, 0]
def k0_off6 (d0 : Dev nD) (c1_i32_6 : BitVec 32) : Fin 2 → Nat :=
  let c2_i32_184 : BitVec 32 := 2#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let v222 : BitVec 32 := Scalar.muli c2_i32_184 v24
  let c512_i32_196 : BitVec 32 := 512#32
  let v239 : BitVec 32 := Scalar.muli v222 c512_i32_196
  let c0_i32_199 : BitVec 32 := 0#32
  ![v239.toNat, 0]
abbrev stage0_0 : Fin 1 → Memref sig .tc .vmem S1024x4096 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S4096x4096, .i8⟩
  | .hbm, ⟨1, _⟩ => ⟨S4096x8192, .i8⟩
  | .hbm, ⟨2, _⟩ => ⟨S1, .f32⟩
  | .hbm, ⟨3, _⟩ => ⟨S1, .f32⟩
  | .hbm, ⟨4, _⟩ => ⟨S4096x4096, .i32⟩
  | .hbm, ⟨5, _⟩ => ⟨S4096x4096, .f32⟩
  | .hbm, ⟨6, _⟩ => ⟨S4096x8192, .i32⟩
  | .hbm, ⟨7, _⟩ => ⟨S4096x8192, .f32⟩
  | .hbm, ⟨8, _⟩ => ⟨S4096x8192, .f32⟩
  | .hbm, ⟨9, _⟩ => ⟨S1, .f32⟩
  | .hbm, ⟨10, _⟩ => ⟨S1x1, .f32⟩
  | .hbm, ⟨11, _⟩ => ⟨S4096x8192, .f32⟩
  | .hbm, ⟨12, _⟩ => ⟨S4096x8192, .f32⟩
  | .hbm, ⟨13, _⟩ => ⟨S4096x8192, .f32⟩
  | .hbm, ⟨14, _⟩ => ⟨S4096x8192, .f32⟩
  | .hbm, ⟨15, _⟩ => ⟨S_, .f32⟩
  | .hbm, ⟨16, _⟩ => ⟨S4096x8192, .f32⟩
  | .hbm, ⟨17, _⟩ => ⟨S4096x8192, .f32⟩
  | .hbm, ⟨18, _⟩ => ⟨S4096x8192, .f32⟩
  | _, _ => ⟨S4096x4096, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Proof.Ring.lean ====
/-
# The ring of four devices: its cells, what each copy hands over, and what each device owes

Each device keeps its block of `x` and sends it around the ring both ways. With `nxt` the device after and `prv` the
device before, a device starts six copies of half a block (512 rows each):

  copy 0   top of `x`            to `nxt`'s left buffer
  copy 1   bottom of `x`         to `nxt`'s left buffer
  copy 2   bottom of `x`         to `prv`'s right buffer
  copy 3   top of `x`            to `prv`'s right buffer
  copy 4   top of left buffer    to `nxt`'s far buffer
  copy 5   bottom of right buffer to `prv`'s far buffer

so the left buffer comes to hold `prv`'s block, the right one `nxt`'s and the far one that of the device opposite.
Before its first copy a device tells both neighbours it has entered, on the barrier semaphore, and waits to hear from
both: with each word goes the right to write into the buffers its neighbour will fill.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Rounds
public import Idealize.ShloMosaic.Lib.Tactic

@[expose] public section

noncomputable section

namespace Cert.AllGather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The ghost state: the staging cells' rounds, the ring's rounds, the local copies' counters -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
/-- The ring's rounds: the left half of the right component. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
abbrev EC : UEmb Counters (MT nD τ sig Unit (Elt F) ℕ UU ℕ) := countersEmb (U := UU)

variable (m : (ℓ : Loc nD τ sig) → Buf (Elt F) ℓ)

/-! ## The ring -/

set_option backward.proofsInPublic true in
def nxt (c : Dev nD) : Dev nD := ⟨(c.val + 1) % 4, Nat.mod_lt _ (by decide)⟩
set_option backward.proofsInPublic true in
def prv (c : Dev nD) : Dev nD := ⟨(c.val + 3) % 4, Nat.mod_lt _ (by decide)⟩

theorem prv_nxt (c : Dev nD) : prv (nxt c) = c := by revert c; decide
theorem nxt_prv (c : Dev nD) : nxt (prv c) = c := by revert c; decide
theorem nxt_nxt (c : Dev nD) : nxt (nxt c) = prv (prv c) := by revert c; decide

def ring : Dev nD ≃ Dev nD := ⟨nxt, prv, prv_nxt, nxt_prv⟩

theorem dev1_eq (c : Dev nD) : (⟨k0_dev1 c, k0_dev1_lt c⟩ : Dev nD) = prv c := by revert c; decide +kernel
theorem dev2_eq (c : Dev nD) : (⟨k0_dev2 c, k0_dev2_lt c⟩ : Dev nD) = nxt c := by revert c; decide +kernel
theorem dev3_eq (c : Dev nD) : (⟨k0_dev3 c, k0_dev3_lt c⟩ : Dev nD) = nxt c := by revert c; decide +kernel
theorem dev4_eq (c : Dev nD) : (⟨k0_dev4 c, k0_dev4_lt c⟩ : Dev nD) = nxt c := by revert c; decide +kernel
theorem dev5_eq (c : Dev nD) : (⟨k0_dev5 c, k0_dev5_lt c⟩ : Dev nD) = prv c := by revert c; decide +kernel
theorem dev6_eq (c : Dev nD) : (⟨k0_dev6 c, k0_dev6_lt c⟩ : Dev nD) = prv c := by revert c; decide +kernel
theorem dev7_eq (c : Dev nD) : (⟨k0_dev7 c, k0_dev7_lt c⟩ : Dev nD) = nxt c := by revert c; decide +kernel
theorem dev8_eq (c : Dev nD) : (⟨k0_dev8 c, k0_dev8_lt c⟩ : Dev nD) = prv c := by revert c; decide +kernel

theorem off3_eq (c : Dev nD) : k0_off3 c = ![1024 * (prv c).val, 0] := by revert c; decide +kernel
theorem off4_eq1 (c : Dev nD) : k0_off4 c 1#32 = ![1024 * (nxt c).val + 512, 0] := by revert c; decide +kernel
theorem off4_eq2 (c : Dev nD) : k0_off4 c 2#32 = ![1024 * (prv (prv c)).val + 512, 0] := by revert c; decide +kernel
theorem off5_eq (c : Dev nD) : k0_off5 c = ![1024 * (prv c).val + 512, 0] := by revert c; decide +kernel
theorem off6_eq1 (c : Dev nD) : k0_off6 c 1#32 = ![1024 * (nxt c).val, 0] := by revert c; decide +kernel
theorem off6_eq2 (c : Dev nD) : k0_off6 c 2#32 = ![1024 * (prv (prv c)).val, 0] := by revert c; decide +kernel

/-! ## The memrefs -/

abbrev xM : Memref sig .tc .vmem S1024x4096 .i8 := Memref.whole cc0_stg0_0
abbrev wM : Memref sig .tc .vmem S4096x2048 .i8 := Memref.whole cc0_stg1_0
abbrev sxM : Memref sig .tc .smem S1 .f32 := Memref.whole cc0_stg2_0
abbrev swM : Memref sig .tc .smem S1 .f32 := Memref.whole cc0_stg3_0
abbrev outM : Memref sig .tc .hbm S4096x2048 .f32 := Memref.whole main_v1
abbrev flM : Memref sig .tc .vmem S1024x4096 .i8 := Memref.whole cc0_scratch0
abbrev frM : Memref sig .tc .vmem S1024x4096 .i8 := Memref.whole cc0_scratch1
abbrev opM : Memref sig .tc .vmem S1024x4096 .i8 := Memref.whole cc0_scratch2
abbrev yM : Memref sig .tc .vmem S4x512x2048 .f32 := Memref.whole cc0_scratch3

/-- The top and the bottom half of a block. -/
abbrev rT : Rect S1024x4096 := Rect.unit (s := S1024x4096) ![0, 0] S512x4096.size inb_S1024x4096_S512x4096_0_0
abbrev rB : Rect S1024x4096 := Rect.unit (s := S1024x4096) ![512, 0] S512x4096.size inb_S1024x4096_S512x4096_512_0
abbrev tM (M : Memref sig .tc .vmem S1024x4096 .i8) : Memref sig .tc .vmem S512x4096 .i8 := M.slice rT (fun _ => rfl)
abbrev bM (M : Memref sig .tc .vmem S1024x4096 .i8) : Memref sig .tc .vmem S512x4096 .i8 := M.slice rB (fun _ => rfl)

/-- A row of the result staging buffer, and a window of 512 rows of the result. -/
abbrev rY (o : Fin 3 → Nat) (ho : ∀ a, o a + S1x512x2048.size a ≤ S4x512x2048.size a) : Rect S4x512x2048 :=
  Rect.unit (s := S4x512x2048) o S1x512x2048.size ho
abbrev yS (o : Fin 3 → Nat) (ho : ∀ a, o a + S1x512x2048.size a ≤ S4x512x2048.size a) : Memref sig .tc .vmem S512x2048 .f32 :=
  (yM.slice (rY o ho) (fun _ => rfl)).squeeze S512x2048 squeezes_S1x512x2048_S512x2048
abbrev oS (p : Fin 2 → Nat) (hp : ∀ a, p a + S512x2048.size a ≤ S4096x2048.size a) : Memref sig .tc .hbm S512x2048 .f32 :=
  outM.slice (Rect.unit (s := S4096x2048) p S512x2048.size hp) (fun _ => rfl)

/-- A memref's elements held on device `c`, a share of them, at contents `f`. -/
def pt {sp : Space} {s : Shape} {e : EltTy} (M : Memref sig .tc sp s e) (c : Dev nD) (q : PosShare TreeShare)
    (f : Buf (Elt F) (M.view.loc (c : Thread nD τ))) : sProp 𝕄 :=
  M.view.loc (c : Thread nD τ) ↦[M.view.set]{q} f

omit [FloatOps F] in
instance pt_storable {sp : Space} {s : Shape} {e : EltTy} (M : Memref sig .tc sp s e) (c : Dev nD) (q) (f) :
    BI.Storable (upEmb : UEmb _ 𝕄) (pt (F := F) M c q f) := by unfold pt; infer_instance

/-! ## The cells -/

/-- The runtime's barrier semaphore. -/
abbrev barS : Sem sig := (SemArray.scalar (sig.barrier 0 rfl) : Sems sig S_).sem

/-- A device's thirteen ring cells: the barrier, the six send cells, the six receive cells. -/
def csem (k : Fin 13) : SemLoc sig := if k = 0 then .reg barS else .dma ⟨3 + k.val, by have := k.isLt; show 3 + k.val < 20; omega⟩
abbrev kcell (ck : Dev nD × Fin 13) : GSem nD τ sig := ((ck.1 : Thread nD τ), csem ck.2)

/-- The position of a semaphore among the thirteen; 13 of any other. -/
def kOf (sm : SemLoc sig) : ℕ := match sm with
  | .reg s => if s = barS then 0 else 13
  | .dma q => if 4 ≤ q.val ∧ q.val < 16 then q.val - 3 else 13
theorem kOf_csem (k : Fin 13) : kOf (csem k) = k.val := by revert k; decide

/-- The credit of half a block's copy. -/
abbrev N : ℕ := (tM xM).view.dmaCredit
theorem N_pos : 0 < N := View.dmaCredit_pos _ (by decide)

/-! ## Contents -/

/-- What the launch stages on device `c`: its block of `x`, its block of `w`, the two scales. -/
def xstg (c : Dev nD) : S1024x4096.Idx → Elt F .i8 := (win0_0.blk (0 : Fin 1)).view.read (Elt F) (m ((c : Thread nD τ).loc main_arg0))
def wstg (c : Dev nD) : S4096x2048.Idx → Elt F .i8 := (win0_1.blk (0 : Fin 1)).view.read (Elt F) (m ((c : Thread nD τ).loc main_arg1))
def sxstg (c : Dev nD) : S1.Idx → Elt F .f32 := (win0_2.blk (0 : Fin 1)).view.read (Elt F) (m ((c : Thread nD τ).loc main_arg2))
def swstg (c : Dev nD) : S1.Idx → Elt F .f32 := (win0_3.blk (0 : Fin 1)).view.read (Elt F) (m ((c : Thread nD τ).loc main_arg3))

/-! ## The schedule -/

/-- What each duty of device `c`'s cells hands over. The barrier cell (0): from `nxt c` its left buffer and the top of
    its far one, from `prv c` its right buffer and the bottom of its far one. A send cell (1–6): the share of the source
    the copy read. A receive cell (7–12): the filled half. -/
def pay (c : Dev nD) (k : ℕ) (d : Bool) : sProp 𝕄 := match k with
  | 0 => match d with
    | false => iprop((∃ f, pt (tM flM) (nxt c) fullShare f) ∗ (∃ f, pt (bM flM) (nxt c) fullShare f) ∗ (∃ f, pt (tM opM) (nxt c) fullShare f))
    | true => iprop((∃ f, pt (bM frM) (prv c) fullShare f) ∗ (∃ f, pt (tM frM) (prv c) fullShare f) ∗ (∃ f, pt (bM opM) (prv c) fullShare f))
  | 1 => pt (tM xM) c fullShare.left (xstg m c)
  | 2 => pt (bM xM) c fullShare.left (xstg m c)
  | 3 => pt (bM xM) c fullShare.right.left (xstg m c)
  | 4 => pt (tM xM) c fullShare.right.left (xstg m c)
  | 5 => pt (tM flM) c fullShare.left (xstg m (prv c))
  | 6 => pt (bM frM) c fullShare.left (xstg m (nxt c))
  | 7 => pt (tM flM) c fullShare (xstg m (prv c))
  | 8 => pt (bM flM) c fullShare (xstg m (prv c))
  | 9 => pt (bM frM) c fullShare (xstg m (nxt c))
  | 10 => pt (tM frM) c fullShare (xstg m (nxt c))
  | 11 => pt (tM opM) c fullShare (xstg m (prv (prv c)))
  | 12 => pt (bM opM) c fullShare (xstg m (prv (prv c)))
  | _ => iprop(emp)

omit [FloatOps F] in
instance pay_storable (c : Dev nD) (k : ℕ) (d : Bool) : BI.Storable (upEmb : UEmb _ 𝕄) (pay m c k d) := by
  unfold pay; (repeat' split) <;> infer_instance

/-- The duties of a cell by its position. -/
def duts (k : ℕ) : Finset Bool := if k = 0 then Finset.univ else if k < 13 then {false} else ∅

/-- One round: a barrier cell has a duty of one unit per neighbour, every other ring cell one duty of half a block's credit. -/
def ringRd : Rounds.Schedule (GSem nD τ sig) Bool 𝕄 where
  duties g r := if r = 0 ∧ g.1.2 = .tc then duts (kOf g.2) else ∅
  unitless _ := False
  amount g _ _ := if kOf g.2 = 0 then 1 else N
  payload g _ d := pay m g.1.1 (kOf g.2) d
  amount_pos g _ _ _ := by
    by_cases h : kOf g.2 = 0
    · rw [if_pos h]; exact Nat.one_pos
    · rw [if_neg h]; exact N_pos

omit [FloatOps F] in
instance ringRd_payload_storable (g : GSem nD τ sig) (r : ℕ) (d : Bool) :
    BI.Storable (upEmb : UEmb _ 𝕄) ((ringRd (F := F) m).payload g r d) := by
  show BI.Storable upEmb (pay m g.1.1 (kOf g.2) d); infer_instance

section Sched
variable (c : Dev nD) (k : Fin 13)

omit [FloatOps F] in
theorem duties_k : (ringRd (F := F) m).duties (kcell (c, k)) 0 = duts k.val := by
  dsimp only [ringRd]; rw [kOf_csem]; exact if_pos ⟨rfl, rfl⟩
omit [FloatOps F] in
theorem mem_duties : false ∈ (ringRd (F := F) m).duties (kcell (c, k)) 0 := by rw [duties_k]; revert k; decide
omit [FloatOps F] in
theorem mem_duties_true : true ∈ (ringRd (F := F) m).duties (kcell (c, 0)) 0 := by rw [duties_k]; decide
omit [FloatOps F] in
theorem duties_later (g : GSem nD τ sig) : ∀ r, 1 ≤ r → (ringRd (F := F) m).duties g r = ∅ :=
  fun r hr => by dsimp only [ringRd]; rw [if_neg fun h => by omega]
omit [FloatOps F] in
theorem amount_k (d : Bool) : (ringRd (F := F) m).amount (kcell (c, k)) 0 d = if k.val = 0 then 1 else N := by
  dsimp only [ringRd]; rw [kOf_csem]
omit [FloatOps F] in
theorem amount_pos_k (hk : k.val ≠ 0) (d : Bool) : (ringRd (F := F) m).amount (kcell (c, k)) 0 d = N := by
  rw [amount_k, if_neg hk]
omit [FloatOps F] in
theorem payload_k (d : Bool) : (ringRd (F := F) m).payload (kcell (c, k)) 0 d = pay m c k.val d := by
  dsimp only [ringRd]; rw [kOf_csem]
theorem duts_pos {n : ℕ} (h0 : n ≠ 0) (h : n < 13) : duts n = {false} := by unfold duts; rw [if_neg h0, if_pos h]
omit [FloatOps F] in
theorem expect_bar : (ringRd (F := F) m).expect (kcell (c, 0)) 0 = 2 := by
  unfold Schedule.expect Schedule.amountOf
  rw [duties_k, Finset.sum_congr rfl fun d _ => amount_k m c 0 d]; rfl
omit [FloatOps F] in
theorem expect_k (hk : k.val ≠ 0) : (ringRd (F := F) m).expect (kcell (c, k)) 0 = N := by
  unfold Schedule.expect Schedule.amountOf
  rw [duties_k, duts_pos hk k.isLt, Finset.sum_singleton, amount_pos_k m c k hk]
omit [FloatOps F] in
theorem rest_bar : bigSep ((ringRd (F := F) m).duties (kcell (c, 0)) 0 \ ∅) (fun d => (ringRd (F := F) m).payload (kcell (c, 0)) 0 d)
    = iprop(pay m c 0 false ∗ pay m c 0 true) := by
  rw [Finset.sdiff_empty, duties_k, show duts (0 : Fin 13).val = Finset.univ from rfl,
    bigSep_univ_eq_bigSepL [false, true] (by decide) (by decide), bigSepL_cons_cons, bigSepL_singleton, payload_k, payload_k]
  rfl
omit [FloatOps F] in
theorem rest_k (hk : k.val ≠ 0) :
    bigSep ((ringRd (F := F) m).duties (kcell (c, k)) 0 \ ∅) (fun d => (ringRd (F := F) m).payload (kcell (c, k)) 0 d) = pay m c k.val false := by
  rw [Finset.sdiff_empty, duties_k, duts_pos hk k.isLt, bigSep_singleton, payload_k]

end Sched

/-! ## What each device owes at launch; the levels -/

/-- The eight payments device `c` makes into other devices' cells, LAST first: whom, which of its cells, how much. -/
def dueDev (c : Dev nD) (j : ℕ) : Dev nD := match j with
  | 0 => prv c | 1 => nxt c | 2 => prv c | 3 => prv c | 4 => nxt c | 5 => nxt c | 6 => nxt c | _ => prv c
def dueK (j : ℕ) : Fin 13 := match j with
  | 0 => 12 | 1 => 11 | 2 => 10 | 3 => 9 | 4 => 8 | 5 => 7 | 6 => 0 | _ => 0
def dueAmt (j : ℕ) : ℕ := if j < 6 then N else 1
/-- What is left to pay when `n` payments are left. -/
def Owe (c : Dev nD) : ℕ → CellTallies nD τ sig Unit
  | 0 => 0
  | n + 1 => Owe c n + tallyAt (kcell (dueDev c n, dueK n)) () (dueAmt n)

def L (g : GSem nD τ sig) : Finset Unit := if g.1.2 = .tc then {()} else ∅
/-- The barrier at 1, the first four receive cells at 2, the two relayed ones at 3, all else at 0. -/
def lvK (k : ℕ) : ℕ := if k = 0 then 1 else if k < 7 then 0 else if k < 11 then 2 else if k < 13 then 3 else 0
def lv (g : GSem nD τ sig) (_ : Unit) : ℕ := lvK (kOf g.2)

theorem L_of_ne (g : GSem nD τ sig) (h : g.1.2 ≠ .tc) : L g = ∅ := if_neg h
theorem L_tc (c : Dev nD) (sm : SemLoc sig) : L ((c : Thread nD τ), sm) = {()} := if_pos rfl

theorem Owe_pos {c : Dev nD} {n : ℕ} {g : GSem nD τ sig} {u : Unit} (h : 0 < Owe c n g u) :
    ∃ j < n, g = kcell (dueDev c j, dueK j) := by
  induction n with
  | zero => exact absurd h (Nat.lt_irrefl 0)
  | succ n ih =>
    rw [Owe, Pi.add_apply, Finsupp.add_apply, tallyAt_apply] at h
    by_cases hg : g = kcell (dueDev c n, dueK n)
    · exact ⟨n, Nat.lt_succ_self n, hg⟩
    · rw [if_neg (fun h' => hg h'.1), Nat.add_zero] at h
      obtain ⟨j, hj, he⟩ := ih h
      exact ⟨j, Nat.lt_succ_of_lt hj, he⟩

omit [FloatOps F] in
/-- A device may wait on a cell whose level is below those of all the cells it still has to pay into. -/
theorem mayWait (c : Dev nD) (sm : SemLoc sig) (n : ℕ) (hn : ∀ j < n, lvK (kOf sm) < lvK (dueK j).val) :
    (levAts L lv : sProp 𝕄) ⊢ MayWait (c : Thread nD τ) sm () (Owe c n) :=
  MayOwe.of_cut (L := L) (lev := lv) (lvK (kOf sm)) (fun p hp => by rw [Finset.mem_singleton.mp hp, L_tc]; exact Finset.mem_singleton_self _)
    (fun g u hg => by obtain ⟨j, _, rfl⟩ := Owe_pos hg; exact Finset.mem_singleton_self _)
    (fun p hp => by rw [Finset.mem_singleton.mp hp]; exact le_refl _)
    (fun g u hg => by obtain ⟨j, hj, rfl⟩ := Owe_pos hg; show _ < lvK (kOf (csem (dueK j))); rw [kOf_csem]; exact hn j hj)

end Cert.AllGather

end
-- ==== Proof.Steps.lean ====
/-
# What the body's steps do: one lemma per kind of step

The contents the run leaves in the result; then the steps: a copy to a neighbour, a wait on a ring cell, and the three
operations that put a computed window on its way to the result (a load whose value is not used, the store, the start of
the local copy).
-/
module

public import proofs.«01_k».proof.Proof.Ring
public import Idealize.ShloMosaic.Lib.Pipeline.Value

@[expose] public section

noncomputable section

namespace Cert.AllGather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-- Device `c` has `n` payments left. -/
def due (c : Dev nD) (n : ℕ) : sProp 𝕄 := iprop(∃ W, owes (c : Thread nD τ) (Owe c n) W)

/-! ## The contents of the result -/

/-- A window of the result from 512 rows of `x`, a block of `w` and the scale: the int8 product scaled, times its logistic. -/
def yv (s : F .f32) (x : IVec S512x4096 8) (w : IVec S4096x2048 8) : FVec F S512x2048 .f32 :=
  mulf (mulf (sitofp .f32 (matmulI8 IntMxuNumerics.v7x dot_S512x4096_S4096x2048_S512x2048_1_0_0_1_n_n x w (constantI S512x2048 32 0#32))) (broadcast S512x2048 s))
    (logistic (mulf (sitofp .f32 (matmulI8 IntMxuNumerics.v7x dot_S512x4096_S4096x2048_S512x2048_1_0_0_1_n_n x w (constantI S512x2048 32 0#32))) (broadcast S512x2048 s)))

/-- The top (0) or the bottom half of a block of `x`. -/
def hf (X : S1024x4096.Idx → Elt F .i8) (h : ℕ) : S512x4096.Idx → Elt F .i8 :=
  if h = 0 then (tM xM).view.read (Elt F) X else (bM xM).view.read (Elt F) X

/-- The one index of a scale. -/
def i1 : S1.Idx := fun a => ⟨0, by revert a; decide⟩
theorem eq_i1 (i : S1.Idx) : i = i1 := by
  funext a; match a with | ⟨0, _⟩ => exact Fin.ext (by have h : (i 0).val < 1 := (i 0).isLt; show (i 0).val = 0; omega)

/-- The product of the two scales, on device `c`. -/
def scl (c : Dev nD) : F .f32 := k0_pay1 (sxstg m c i1) (swstg m c i1)

/-- The result on device `c`: rows 1024·d to 1024·d+1023 come from device `d`'s block of `x`, 512 at a time. -/
def outC (c : Dev nD) : S4096x2048.Idx → Elt F .f32 := fun i =>
  yv (scl m c) (hf (xstg m ⟨(i 0).val / 1024, by have := (i 0).isLt; show _ < 4; have h : S4096x2048.size 0 = 4096 := rfl; omega⟩) ((i 0).val % 1024 / 512)) (wstg m c)
    (fun a => match a with | ⟨0, _⟩ => ⟨(i 0).val % 512, Nat.mod_lt _ (by decide)⟩ | ⟨1, _⟩ => i 1)

theorem oW_inb (d : Dev nD) (h : Fin 2) : ∀ a, (![1024 * d.val + 512 * h.val, 0] : Fin 2 → ℕ) a + S512x2048.size a ≤ S4096x2048.size a := by
  revert d h; decide
/-- The window of the result for half `h` of device `d`'s block. -/
abbrev oW (d : Dev nD) (h : Fin 2) : Memref sig .tc .hbm S512x2048 .f32 := oS ![1024 * d.val + 512 * h.val, 0] (oW_inb d h)

theorem oS_congr {p p' : Fin 2 → ℕ} (h : p = p') (hp) (hp') : oS p hp = oS p' hp' := by subst h; rfl

theorem outC_read (c d : Dev nD) (h : Fin 2) :
    (oW d h).view.read (Elt F) (outC m c) = yv (scl m c) (hf (xstg m d) h.val) (wstg m c) := by
  funext j
  have h0 : (((oW d h).view.emb j) 0).val = 1024 * d.val + 512 * h.val + (j 0).val := by
    show (1024 * d.val + 512 * h.val) + 1 * (j 0).val = _; omega
  have h1 : (((oW d h).view.emb j) 1).val = (j 1).val := by
    show 0 + 1 * (j 1).val = _; omega
  have hj : (j 0).val < 512 := (j 0).isLt
  have hh := h.isLt
  show outC m c ((oW d h).view.emb j) = _
  unfold outC
  have e1 : (((oW d h).view.emb j) 0).val / 1024 = d.val := by rw [h0]; omega
  have e2 : (((oW d h).view.emb j) 0).val % 1024 / 512 = h.val := by rw [h0]; omega
  have e3 : (((oW d h).view.emb j) 0).val % 512 = (j 0).val := by rw [h0]; omega
  congr 1
  · congr 1
    · congr 1
      exact Fin.ext e1
  · funext a
    match a with
    | ⟨0, _⟩ => exact Fin.ext e3
    | ⟨1, _⟩ => exact Fin.ext h1

/-! ## Points-to facts -/

omit [FloatOps F] in
/-- What is written through a view agrees, on the view's elements, with any contents that read so. -/
theorem write_agrees {sp : Space} {s : Shape} {e : EltTy} (V : View sig .tc sp s e) (fd g : V.ty.Contents (Elt F)) (w : s.Idx → Elt F e)
    (h : V.read (Elt F) g = w) : ∀ i ∈ V.set, V.write (Elt F) fd w Finset.univ i = g i := by
  intro i hi
  obtain ⟨x, _, rfl⟩ := Finset.mem_map.mp hi
  rw [View.write_emb_of_mem _ _ (Finset.mem_univ x), ← h, View.read_apply, cast_cast, cast_eq]

theorem rB_set : (rB.set : Finset S1024x4096.Idx) = Finset.univ \ rT.set := by
  ext i
  rw [Finset.mem_sdiff, Rect.mem_set_unit, Rect.mem_set_unit]
  have h0 : (i 0).val < 1024 := (i 0).isLt
  have h1 : (i 1).val < 4096 := (i 1).isLt
  constructor
  · intro h
    refine ⟨Finset.mem_univ _, fun h' => ?_⟩
    have a := (h 0).1; have b := (h' 0).2
    simp at a b; omega
  · rintro ⟨-, h⟩ a
    by_contra hn
    apply h
    intro b
    match b with
    | ⟨0, _⟩ =>
      refine ⟨Nat.zero_le _, ?_⟩
      by_contra hb
      apply hn
      match a with
      | ⟨0, _⟩ => simp at hb ⊢; omega
      | ⟨1, _⟩ => simp; exact h1
    | ⟨1, _⟩ => exact ⟨Nat.zero_le _, by simp; exact h1⟩

theorem bM_set (M : Memref sig .tc .vmem S1024x4096 .i8) : (bM M).view.set = M.view.set \ (tM M).view.set := by
  show (M.view.slice rB).set = M.view.set \ (M.view.slice rT).set
  rw [View.set_slice, View.set_slice, rB_set, View.set]
  ext i
  simp only [Finset.mem_map, Finset.mem_sdiff, Finset.mem_univ, true_and]
  constructor
  · rintro ⟨x, hx, rfl⟩
    exact ⟨⟨x, rfl⟩, fun ⟨y, hy, he⟩ => hx (M.view.emb.injective he ▸ hy)⟩
  · rintro ⟨⟨x, rfl⟩, h⟩
    exact ⟨x, fun hx => h ⟨x, hx, rfl⟩, rfl⟩

omit [FloatOps F] in
/-- A block is its two halves. -/
theorem pt_halves (M : Memref sig .tc .vmem S1024x4096 .i8) (c : Dev nD) (q : PosShare TreeShare) (f : Buf (Elt F) (M.view.loc (c : Thread nD τ))) :
    pt M c q f ⊣⊢ iprop(pt (tM M) c q f ∗ pt (bM M) c q f) := by
  unfold pt
  rw [bM_set]
  exact pointsTo_split_subset (View.set_slice_subset _ _)

omit [FloatOps F] in
theorem pt_left {sp : Space} {s : Shape} {e : EltTy} (M : Memref sig .tc sp s e) (c : Dev nD) (f : Buf (Elt F) (M.view.loc (c : Thread nD τ))) :
    pt M c fullShare f ⊣⊢ iprop(pt M c fullShare.left f ∗ pt M c fullShare.right f) :=
  pointsTo_share (PosShare.mem_left_op_right fullShare)
omit [FloatOps F] in
theorem pt_right {sp : Space} {s : Shape} {e : EltTy} (M : Memref sig .tc sp s e) (c : Dev nD) (f : Buf (Elt F) (M.view.loc (c : Thread nD τ))) :
    pt M c fullShare.right f ⊣⊢ iprop(pt M c fullShare.right.left f ∗ pt M c fullShare.right.right f) :=
  pointsTo_share (PosShare.mem_left_op_right fullShare.right)

/-! ## A copy to a neighbour -/

section Steps
variable (K : Dev nD × Fin 13 → ℕ)

/-- Device `c` copies half a block into a neighbour's buffer: it gives up a share of the source and the destination, pays
    with its own send cell's token and the receive cell's, and gets the credit it will wait for the source with. -/
theorem wp_send_half (c n d : Dev nD) (hn : n = d) (ks kr : Fin 13) (hks : ks.val ≠ 0) (hkr : kr.val ≠ 0) (sS sR : DmaSem sig)
    (hsS : SemLoc.dma sS = csem ks) (hsR : SemLoc.dma sR = csem kr)
    (src dst : Memref sig .tc .vmem S512x4096 .i8) (hN : dst.view.dmaCredit = N) (q : PosShare TreeShare)
    (fs : Buf (Elt F) (src.view.loc (c : Thread nD τ))) (fd gd : Buf (Elt F) (dst.view.loc (d : Thread nD τ)))
    (hland : dst.view.read (Elt F) gd = src.view.read (Elt F) fs)
    (hpay₁ : pay m c ks.val false = pt src c q fs) (hpay₂ : pay m d kr.val false = pt dst d fullShare gd)
    {hsc : (dst : Memref sig (Dev.tc n : Thread nD τ).2.kind .vmem S512x4096 .i8).view.ref.isScScratch = false}
    {hsrc : src.view.WordExact} {hdst : dst.view.WordExact}
    {hsem : DmaTarget.Typed .vmem (.dma sR) (.remote (Dev.tc n : Thread nD τ) (dst : Memref sig (Dev.tc n : Thread nD τ).2.kind .vmem S512x4096 .i8) (.dma sS) hsc)}
    {α : Type} {Q : α → sProp 𝕄} {k : PUnit → Prog (TpuEff nD τ sig (Elt F) Λ₀ .tc) α} {O₀ : CellTallies nD τ sig Unit} (O : CellTallies nD τ sig Unit)
    (hO : O₀ = O + tallyAt (kcell (d, kr)) () N) (W : Waits sig Unit) :
    iprop(cellInv ER (ringRd m) (K (c, ks)) (kcell (c, ks)) ∗ cellInv ER (ringRd m) (K (d, kr)) (kcell (d, kr))
        ∗ pt src c q fs ∗ pt dst d fullShare fd ∗ owes (c : Thread nD τ) O₀ W
        ∗ dutyTok ER (kcell (c, ks)) 0 false ∗ reached ER (kcell (c, ks)) 0
        ∗ dutyTok ER (kcell (d, kr)) 0 false ∗ reached ER (kcell (d, kr)) 0)
      ⊢ iprop(((cred (tallyAt (kcell (c, ks)) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) k) Q) := by
  subst hn
  have mem₁ := mem_duties (F := F) m c ks
  have mem₂ := mem_duties (F := F) m n kr
  have am₁ := amount_pos_k (F := F) m c ks hks false
  have am₂ := amount_pos_k (F := F) m n kr hkr false
  have pl₁ := payload_k (F := F) m c ks false
  have pl₂ := payload_k (F := F) m n kr false
  dsimp only [kcell] at mem₁ mem₂ am₁ am₂ pl₁ pl₂ hO ⊢
  rw [← hsS] at mem₁ am₁ pl₁ ⊢
  rw [← hsR] at mem₂ am₂ pl₂ hO ⊢
  unfold pt at hpay₁ hpay₂ ⊢
  exact Rounds.wp_send_pointsTo 𝒱₀ ER (ringRd m) (c : Thread nD τ) none (κ₁ := K (c, ks)) (κ₂ := K (n, kr))
    (r₁ := 0) (r₂ := 0) (d₁ := false) (d₂ := false) (fd := fd) mem₁ mem₂ () () N hN am₁ am₂ O hO (W := W)
    (by rw [pl₁, hpay₁])
    (by rw [pl₂, hpay₂]
        exact Entails.of_eq (pointsTo_congr (write_agrees dst.view fd gd _ hland)))

/-! ## A wait on a send or receive cell -/

/-- Device `c` waits on its own cell `k` for half a block's credit: the cell's payload comes with it. -/
theorem wp_wait_half (c : Dev nD) (ks : Fin 13) (hks : ks.val ≠ 0) (sS : DmaSem sig) (hsS : SemLoc.dma sS = csem ks)
    {sp' : Space} {s' : Shape} {e' : EltTy}
    {srcw : Memref sig .tc sp' s' e'} {sp : Space} {s : Shape} {e : EltTy} {dstw : Memref sig .tc sp s e} (hN : dstw.view.dmaCredit = N)
    {hsrc : srcw.view.WordExact} {hdst : dstw.view.WordExact} (n : ℕ) (hn : ∀ j < n, lvK ks.val < lvK (dueK j).val)
    {α : Type} {Q : α → sProp 𝕄} {k : PUnit → Prog (TpuEff nD τ sig (Elt F) Λ₀ .tc) α} (W : Waits sig Unit) :
    iprop(cellInv ER (ringRd m) (K (c, ks)) (kcell (c, ks)) ∗ cred (tallyAt (kcell (c, ks)) () N) ∗ owes (c : Thread nD τ) (Owe c n) W
        ∗ levAts L lv ∗ atPos ER (kcell (c, ks)) 0 ∅ 0)
      ⊢ iprop(((∃ W, owes (c : Thread nD τ) (Owe c n) W) ∗ atPos ER (kcell (c, ks)) (0 + 1) ∅ 0 ∗ pay m c ks.val false
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sS srcw dstw hsrc hdst) k) Q) := by
  have ex := expect_k (F := F) m c ks hks
  have rs := rest_k (F := F) m c ks hks
  have mw := mayWait (F := F) c (csem ks) n (by rw [kOf_csem]; exact hn)
  rw [← hN] at ex ⊢
  dsimp only [kcell] at ex rs mw ⊢
  rw [← hsS] at ex rs mw ⊢
  iintro ⟨#HI, Hc, HO, #Hlev, Hat⟩ Hk
  iapply (Rounds.wp_wait_rest_token 𝒱₀ ER (ringRd m) (c : Thread nD τ) none (κ := K (c, ks))
      (wpE_waitDma2_eq 𝒱₀ (c : Thread nD τ) none Set.univ) (Set.mem_univ _) () (O := Owe c n) (W := W) (R := 0) (m := 0) (T := ∅)
      (by rw [Nat.zero_add, ex])) $$ [Hc HO Hat]
  · isplitr; · iexact HI
    isplitl [Hc]; · iexact Hc
    isplitl [HO]; · iexact HO
    isplitr; · iapply mw; iexact Hlev
    iexact Hat
  iintro ⟨HO, Hat, -, Hpay⟩
  ihave Hp := (Entails.of_eq rs) $$ Hpay
  iapply Hk
  isplitl [HO]; · iexists _; iexact HO
  isplitl [Hat]; · iexact Hat
  iexact Hp

/-! ## A computed window on its way to the result -/

abbrev NO : ℕ := (oW 0 0).view.dmaCredit
theorem NO_pos : 0 < NO := View.dmaCredit_pos _ (by decide)

omit [FloatOps F] in
/-- A row of the staging buffer, read as 512 by 2048, is what it reads as one by 512 by 2048. -/
theorem yS_read (o : Fin 3 → ℕ) (ho) (f : yM.view.ty.Contents (Elt F)) :
    (yS o ho).view.read (Elt F) f = shapeCast S512x2048 ((yM.access (rY o ho)).read (Elt F) f) shapeCasts_S1x512x2048_S512x2048 := rfl

/-- A row of the staging buffer held with contents that read `z`. -/
def ySt (o : Fin 3 → ℕ) (ho : ∀ a, o a + S1x512x2048.size a ≤ S4x512x2048.size a) (c : Dev nD) (z : FVec F S512x2048 .f32) : sProp 𝕄 :=
  iprop(∃ f, ⌜(yS o ho).view.read (Elt F) f = z⌝ ∗ pt (yS o ho) c fullShare f)

theorem yS_set (o : Fin 3 → ℕ) (ho) : (yS o ho).view.set = (yM.access (rY o ho)).set := View.set_reshape _ _

/-- The load whose value is not used: the row is held, whatever it holds. -/
theorem wp_yload (c : Dev nD) (o : Fin 3 → ℕ) (ho) {hl} {α : Type} {Q : α → sProp 𝕄} {k : _ → Prog (TpuEff nD τ sig (Elt F) Λ₀ .tc) α} :
    (iprop(∃ f, pt (yS o ho) c fullShare f) : sProp 𝕄)
      ⊢ iprop((∀ x, (∃ f, pt (yS o ho) c fullShare f) -∗ wp frame (wpE (defs₀ (F := F)) 𝒱₀ (c : Thread nD τ) none) Set.univ (k x) Q)
          -∗ wp frame (wpE (defs₀ (F := F)) 𝒱₀ (c : Thread nD τ) none) Set.univ (.op (.load yM (rY o ho).toLoadRect hl) k) Q) := by
  iintro ⟨%f, Hy⟩ Hk
  unfold pt
  iapply (wp_load_rect 𝒱₀ (c : Thread nD τ) none Set.univ (m := yM) (r := rY o ho) (S := (yS o ho).view.set) (yS_set o ho).symm.subset) $$ Hy; iintro Hy
  iapply Hk
  iexists f; iexact Hy

/-- The store of a computed window, `z`, into a row of the staging buffer. -/
theorem wp_ystore (c : Dev nD) (o : Fin 3 → ℕ) (ho) (v : FVec F S1x512x2048 .f32) (z : FVec F S512x2048 .f32)
    (hz : v = shapeCast S1x512x2048 z shapeCasts_S512x2048_S1x512x2048)
    {hx} {hm} {α : Type} {Q : α → sProp 𝕄} {k : PUnit → Prog (TpuEff nD τ sig (Elt F) Λ₀ .tc) α} :
    (iprop(∃ f, pt (yS o ho) c fullShare f) : sProp 𝕄)
      ⊢ iprop((ySt o ho c z -∗ wp frame (wpE (defs₀ (F := F)) 𝒱₀ (c : Thread nD τ) none) Set.univ (k ⟨⟩) Q)
          -∗ wp frame (wpE (defs₀ (F := F)) 𝒱₀ (c : Thread nD τ) none) Set.univ (.op (.store yM (rY o ho) v Finset.univ hx hm) k) Q) := by
  iintro ⟨%f, Hy⟩ Hk
  unfold ySt pt
  iapply (wp_store 𝒱₀ (c : Thread nD τ) none Set.univ (m := yM) (r := rY o ho) (Mk := Finset.univ) (S := (yS o ho).view.set)
    (yS_set o ho).symm.subset) $$ Hy; iintro Hy
  iapply Hk
  iexists ((yM.access (rY o ho)).write (Elt F) f v Finset.univ)
  isplitr
  · ipureintro
    refine (yS_read o ho _).trans ?_
    rw [View.read_write_univ, hz]
    exact shapeCast_shapeCast z shapeCasts_S512x2048_S1x512x2048 shapeCasts_S1x512x2048_S512x2048
  · iexact Hy

/-- The start of a row's copy into a window of the result: when the copy is done the window holds what the result does there. -/
theorem wp_yenq (c d : Dev nD) (h : Fin 2) (o : Fin 3 → ℕ) (ho) (p : Fin 2 → ℕ) (hp) (hpd : p = ![1024 * d.val + 512 * h.val, 0]) (q : DmaSem sig)
    {hsrc : (yS o ho).view.WordExact} {hdst : (oS p hp).view.WordExact} {hsem : DmaTarget.Typed (nD := nD) (τ := τ) (p := .tc) .vmem (.dma q) (.here (oS p hp))}
    {α : Type} {Q : α → sProp 𝕄} {k : PUnit → Prog (TpuEff nD τ sig (Elt F) Λ₀ .tc) α}
    (fo : Buf (Elt F) ((oS p hp).view.loc (c : Thread nD τ))) :
    iprop(ySt o ho c (yv (scl m c) (hf (xstg m d) h.val) (wstg m c)) ∗ pt (oS p hp) c fullShare fo ∗ semVal ((c : Thread nD τ), .dma q) 0)
      ⊢ iprop((Flight EC (c : Thread nD τ) (.dma q) () NO iprop(pt (oS p hp) c fullShare (outC m c) ∗ ∃ f, pt (yS o ho) c fullShare f)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (yS o ho) (.here (oS p hp)) (.dma q) hsrc hdst hsem) k) Q) := by
  have hg : (oS p hp).view.read (Elt F) (outC m c) = yv (scl m c) (hf (xstg m d) h.val) (wstg m c) := by
    subst hpd; exact outC_read m c d h
  unfold ySt
  iintro ⟨⟨%f, %hf, Hy⟩, Hout, Hv⟩ Hk
  unfold pt
  iapply (Transfers.wp_dmaLocal EC 𝒱₀ (c : Thread nD τ) none (src := yS o ho) (dst := oS p hp) (q := fullShare) (via := ReadAs.same)
    (fs := f) (Sd := (oS p hp).view.set) (fd := fo) () NO rfl NO_pos subset_rfl) $$ [Hy Hout Hv]
  · isplitl [Hy]; · iexact Hy
    isplitl [Hout]; · iexact Hout
    iexact Hv
  iintro HF
  iapply Hk
  iapply (Transfers.Flight_mono EC (c : Thread nD τ) (D := iprop(((oS p hp).view.loc (c : Thread nD τ) ↦[(oS p hp).view.set]{fullShare} _) ∗ _)) ?_) $$ HF
  iintro ⟨Ho, Hy⟩
  isplitl [Ho]
  · iapply (Entails.of_eq (pointsTo_congr (write_agrees (oS p hp).view fo (outC m c) _ (by rw [hg]; exact hf.symm)))) $$ Ho
  · iexists _; iexact Hy

/-- The wait for a row's copy, nothing being owed any more: the window of the result done, the row free again, the
    semaphore's counter at zero. -/
theorem wp_ywait (c : Dev nD) (q : DmaSem sig) {sp' : Space} {s' : Shape} {e' : EltTy}
    {srcw : Memref sig .tc sp' s' e'} {p : Fin 2 → ℕ} {hp} {hsrc : srcw.view.WordExact} {hdst : (oS p hp).view.WordExact}
    {D : sProp 𝕄} {α : Type} {Q : α → sProp 𝕄} {k : PUnit → Prog (TpuEff nD τ sig (Elt F) Λ₀ .tc) α} :
    iprop(Flight EC (c : Thread nD τ) (.dma q) () NO D ∗ due c 0)
      ⊢ iprop(((D ∗ semVal ((c : Thread nD τ), .dma q) 0 ∗ due c 0)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q srcw (oS p hp) hsrc hdst) k) Q) := by
  unfold due
  iintro ⟨HF, ⟨%W, HO⟩⟩ Hk
  iapply (Transfers.wp_waitLocal EC 𝒱₀ (c : Thread nD τ) none (srcw := srcw) (dstw := oS p hp) () (N := NO) rfl (W := W)) $$ [HF HO]
  · isplitl [HF]; · iexact HF
    iexact HO
  iintro ⟨HD, Hv, HO⟩
  iapply Hk
  isplitl [HD]; · iexact HD
  isplitl [Hv]; · iexact Hv
  iexists _; iexact HO

/-! ## The loads -/

/-- A load of half a block, of which a share is held. -/
theorem wp_ldhalf (c : Dev nD) (M : Memref sig .tc .vmem S1024x4096 .i8) (r : Rect S1024x4096) (hr : ∀ a, r.stride a = 1) (q : PosShare TreeShare)
    (f : Buf (Elt F) (M.view.loc (c : Thread nD τ))) {hl} {α : Type} {Q : α → sProp 𝕄} {k : _ → Prog (TpuEff nD τ sig (Elt F) Λ₀ .tc) α} :
    pt (M.slice r hr) c q f
      ⊢ iprop((pt (M.slice r hr) c q f -∗ wp frame (wpE (defs₀ (F := F)) 𝒱₀ (c : Thread nD τ) none) Set.univ (k ((M.slice r hr).view.read (Elt F) f)) Q)
          -∗ wp frame (wpE (defs₀ (F := F)) 𝒱₀ (c : Thread nD τ) none) Set.univ (.op (.load M r.toLoadRect hl) k) Q) := by
  unfold pt
  exact wp_load_rect 𝒱₀ (c : Thread nD τ) none Set.univ (m := M) (r := r) (S := (M.slice r hr).view.set) subset_rfl

abbrev rW : Rect S4096x2048 := Rect.unit (s := S4096x2048) ![0, 0] S4096x2048.size inb_S4096x2048_S4096x2048_0_0
theorem hz2 : (![0, 0] : Fin 2 → Nat) = fun _ => 0 := funext fun a => by fin_cases a <;> rfl

/-- The load of the whole block of `w`. -/
theorem wp_ldw (c : Dev nD) (f : S4096x2048.Idx → Elt F .i8) {hl} {α : Type} {Q : α → sProp 𝕄} {k : _ → Prog (TpuEff nD τ sig (Elt F) Λ₀ .tc) α} :
    (((c : Thread nD τ).loc cc0_stg1_0) ↦{fullShare} f : sProp 𝕄)
      ⊢ iprop(((((c : Thread nD τ).loc cc0_stg1_0) ↦{fullShare} f) -∗ wp frame (wpE (defs₀ (F := F)) 𝒱₀ (c : Thread nD τ) none) Set.univ (k f) Q)
          -∗ wp frame (wpE (defs₀ (F := F)) 𝒱₀ (c : Thread nD τ) none) Set.univ (.op (.load wM rW.toLoadRect hl) k) Q) := by
  have h := wp_load (defs := defs₀ (F := F)) (Γ := PendingWaitsCtx.empty) 𝒱₀ (c : Thread nD τ) none Set.univ (m := wM) (r := rW.toLoadRect) (hl := hl) (k := k) (Q := Q) (S := Finset.univ) (q := fullShare) (f := f) (Finset.subset_univ _)
  rwa [show wM.view.readAt (Elt F) rW.toLoadRect f = f from Memref.readAt_unit_zero (Elt F) cc0_stg1_0 hz2 _ f] at h

abbrev rS : Rect S1 := Rect.unit (s := S1) ![0] S1.size inb_S1_S1_0

end Steps

end Cert.AllGather

end
-- ==== Proof.Parts.lean ====
/-
# The body, part by part

The kernel's body is cut into twelve parts and a last wait. One lemma per part: from the resources it touches, the part runs
to the resources it leaves. What all of them share, the cells' invariants, that every cell is at round 0 and the levels, is
`recs`.
-/
module

public import proofs.«01_k».proof.Proof.Steps

@[expose] public section

noncomputable section

namespace Cert.AllGather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 13 → ℕ)

/-- The weakest precondition of a piece of device `c`'s body. -/
abbrev bwp (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

theorem bwp_ret (c : Dev nD) {α : Type} (a : α) (Q : α → sProp 𝕄) : Q a ⊢ bwp c (.ret a) Q := by
  unfold bwp; rw [wp_ret]; iintro H; imodintro; iexact H
theorem bwp_bind (c : Dev nD) {α β : Type} (p : Prog (TpuEff nD τ sig (Elt F) Λ₀ .tc) α) (k : α → Prog (TpuEff nD τ sig (Elt F) Λ₀ .tc) β) (Q : β → sProp 𝕄) :
    bwp c p (fun a => bwp c (k a) Q) ⊢ bwp c (p >>= k) Q := Entails.of_eq (by unfold bwp; rw [wp_bind])

/-! ## What all parts share -/

def recs : sProp 𝕄 :=
  iprop((bigSep Finset.univ fun g : Dev nD × Fin 13 => cellInv ER (ringRd m) (K g) (kcell g))
    ∗ (bigSep Finset.univ fun g : Dev nD × Fin 13 => reached ER (kcell g) 0) ∗ levAts L lv)

instance recs_persistent : BI.Persistent (recs m K) := by unfold recs; infer_instance

theorem recs_inv (g : Dev nD × Fin 13) : recs m K ⊢ cellInv ER (ringRd m) (K g) (kcell g) := by
  unfold recs; iintro ⟨H, -, -⟩
  iapply (show (bigSep Finset.univ fun g : Dev nD × Fin 13 => (cellInv ER (ringRd m) (K g) (kcell g) : sProp 𝕄)) ⊢ cellInv ER (ringRd m) (K g) (kcell g) from
    bigSep_elim (Finset.mem_univ g)) $$ H
theorem recs_reached (g : Dev nD × Fin 13) : recs m K ⊢ reached ER (kcell g) 0 := by
  unfold recs; iintro ⟨-, H, -⟩
  iapply (show (bigSep Finset.univ fun g : Dev nD × Fin 13 => (reached ER (kcell g) 0 : sProp 𝕄)) ⊢ reached ER (kcell g) 0 from
    bigSep_elim (Finset.mem_univ g)) $$ H
theorem recs_lev : recs m K ⊢ levAts L lv := by
  unfold recs; iintro ⟨-, -, H⟩; iexact H

/-- The token of the one duty of a cell that is not a barrier. -/
abbrev tok (c : Dev nD) (k : Fin 13) : sProp 𝕄 := dutyTok ER (kcell (c, k)) 0 false
/-- Device `c` has not yet waited on its cell `k`; it has. -/
abbrev fresh (c : Dev nD) (k : Fin 13) : sProp 𝕄 := atPos ER (kcell (c, k)) 0 ∅ 0
abbrev done (c : Dev nD) (k : Fin 13) : sProp 𝕄 := atPos ER (kcell (c, k)) (0 + 1) ∅ 0
/-- The credit device `c` waits on its cell `k` with. -/
abbrev crd (c : Dev nD) (k : Fin 13) : sProp 𝕄 := cred (tallyAt (kcell (c, k)) () N)

/-- `wp_send_half` over what the parts share. -/
theorem wp_send (c n d : Dev nD) (hn : n = d) (j : ℕ) (ks kr : Fin 13) (hj : dueDev c j = d ∧ dueK j = kr ∧ dueAmt j = N)
    (hks : ks.val ≠ 0) (hkr : kr.val ≠ 0) (sS sR : DmaSem sig)
    (hsS : SemLoc.dma sS = csem ks) (hsR : SemLoc.dma sR = csem kr)
    (src dst : Memref sig .tc .vmem S512x4096 .i8) (hN : dst.view.dmaCredit = N) (q : PosShare TreeShare)
    (fs : Buf (Elt F) (src.view.loc (c : Thread nD τ))) (gd : Buf (Elt F) (dst.view.loc (d : Thread nD τ)))
    (hland : dst.view.read (Elt F) gd = src.view.read (Elt F) fs)
    (hpay₁ : pay m c ks.val false = pt src c q fs) (hpay₂ : pay m d kr.val false = pt dst d fullShare gd)
    {hsc : (dst : Memref sig (Dev.tc n : Thread nD τ).2.kind .vmem S512x4096 .i8).view.ref.isScScratch = false}
    {hsrc : src.view.WordExact} {hdst : dst.view.WordExact}
    {hsem : DmaTarget.Typed .vmem (.dma sR) (.remote (Dev.tc n : Thread nD τ) (dst : Memref sig (Dev.tc n : Thread nD τ).2.kind .vmem S512x4096 .i8) (.dma sS) hsc)}
    {α : Type} {Q : α → sProp 𝕄} {k : PUnit → Prog (TpuEff nD τ sig (Elt F) Λ₀ .tc) α} :
    iprop(recs m K ∗ pt src c q fs ∗ (∃ fd, pt dst d fullShare fd) ∗ due c (j + 1) ∗ tok c ks ∗ tok d kr)
      ⊢ iprop(((crd c ks ∗ due c j) -∗ bwp c (k ⟨⟩) Q)
          -∗ bwp c (.op (.enqueueDma src (.remote (Dev.tc n : Thread nD τ) dst (.dma sS) hsc) (.dma sR) hsrc hdst hsem) k) Q) := by
  unfold due
  iintro ⟨#HR, Hs, ⟨%fd, Hd⟩, ⟨%W, HO⟩, Hts, Htr⟩ Hk
  iapply (wp_send_half m K c n d hn ks kr hks hkr sS sR hsS hsR src dst hN q fs fd gd hland hpay₁ hpay₂ (O₀ := Owe c (j + 1)) (Owe c j)
    (by rw [show Owe c (j + 1) = Owe c j + tallyAt (kcell (dueDev c j, dueK j)) () (dueAmt j) from rfl, hj.1, hj.2.1, hj.2.2]) W) $$ [Hs Hd HO Hts Htr]
  · isplitr; · iapply (recs_inv m K (c, ks)); iexact HR
    isplitr; · iapply (recs_inv m K (d, kr)); iexact HR
    isplitl [Hs]; · iexact Hs
    isplitl [Hd]; · iexact Hd
    isplitl [HO]; · iexact HO
    isplitl [Hts]; · iexact Hts
    isplitr; · iapply (recs_reached m K (c, ks)); iexact HR
    isplitl [Htr]; · iexact Htr
    iapply (recs_reached m K (d, kr)); iexact HR
  iintro ⟨Hc, HO⟩
  iapply Hk
  isplitl [Hc]; · iexact Hc
  iexists _; iexact HO

/-- `wp_wait_half` over what the parts share. -/
theorem wp_wait (c : Dev nD) (ks : Fin 13) (hks : ks.val ≠ 0) (sS : DmaSem sig) (hsS : SemLoc.dma sS = csem ks)
    {sp' : Space} {s' : Shape} {e' : EltTy}
    {srcw : Memref sig .tc sp' s' e'} {sp : Space} {s : Shape} {e : EltTy} (dstw : Memref sig .tc sp s e) (hN : dstw.view.dmaCredit = N)
    {hsrc : srcw.view.WordExact} {hdst : dstw.view.WordExact} (n : ℕ) (hn : ∀ j < n, lvK ks.val < lvK (dueK j).val)
    (P : sProp 𝕄) (hP : pay m c ks.val false = P)
    {α : Type} {Q : α → sProp 𝕄} {k : PUnit → Prog (TpuEff nD τ sig (Elt F) Λ₀ .tc) α} :
    iprop(recs m K ∗ crd c ks ∗ due c n ∗ fresh c ks)
      ⊢ iprop((due c n ∗ done c ks ∗ P -∗ bwp c (k ⟨⟩) Q)
          -∗ bwp c (.op (.waitDma2 sS srcw dstw hsrc hdst) k) Q) := by
  subst hP
  unfold due
  iintro ⟨#HR, Hc, ⟨%W, HO⟩, Hat⟩ Hk
  iapply (wp_wait_half m K c ks hks sS hsS hN n hn W) $$ [Hc HO Hat]
  · isplitr; · iapply (recs_inv m K (c, ks)); iexact HR
    isplitl [Hc]; · iexact Hc
    isplitl [HO]; · iexact HO
    isplitr; · iapply (recs_lev m K); iexact HR
    iexact Hat
  iexact Hk

/-- A barrier signal to device `d`. -/
theorem wp_sig (c d : Dev nD) (b : Bool) (j : ℕ) (hO : Owe c (j + 1) = Owe c j + tallyAt (kcell (d, 0)) () 1)
    (hb : b ∈ (ringRd (F := F) m).duties (kcell (d, 0)) 0)
    {a : ℕ} (ha : a = 1) {α : Type} {Q : α → sProp 𝕄} {k : PUnit → Prog (TpuEff nD τ sig (Elt F) Λ₀ .tc) α} :
    iprop(recs m K ∗ due c (j + 1) ∗ dutyTok ER (kcell (d, 0)) 0 b ∗ pay m d 0 b)
      ⊢ iprop((due c j -∗ bwp c (k ⟨⟩) Q) -∗ bwp c (.op (.semSignal (d : Thread nD τ) barS a) k) Q) := by
  subst ha
  unfold due
  iintro ⟨#HR, ⟨%W, HO⟩, Ht, Hp⟩ Hk
  iapply (Rounds.wp_signal 𝒱₀ ER (ringRd m) (c : Thread nD τ) none (dst := (d : Thread nD τ)) (κ := K (d, 0)) (d := b) hb
    ((amount_k m d 0 b).trans rfl) () (Owe c j) hO) $$ [HO Ht Hp]
  · isplitr; · iapply (recs_inv m K (d, 0)); iexact HR
    isplitl [HO]; · iexact HO
    isplitl [Ht]; · iexact Ht
    isplitl [Hp]; · rw [show (ringRd (F := F) m).payload ((d : Thread nD τ), SemLoc.reg barS) 0 b = pay m d 0 b from payload_k m d 0 b]; iexact Hp
    iapply (recs_reached m K (d, 0)); iexact HR
  iintro HO
  iapply Hk
  iexists _; iexact HO

/-- The wait on the barrier: both neighbours have handed over what this device copies into. -/
theorem wp_bar (c : Dev nD) {a : ℕ} (ha : a = 2) {α : Type} {Q : α → sProp 𝕄} {k : PUnit → Prog (TpuEff nD τ sig (Elt F) Λ₀ .tc) α} :
    iprop(recs m K ∗ cred (tallyAt (kcell (c, 0)) () 2) ∗ due c 6 ∗ fresh c 0)
      ⊢ iprop((due c 6 ∗ done c 0 ∗ pay m c 0 false ∗ pay m c 0 true -∗ bwp c (k ⟨⟩) Q) -∗ bwp c (.op (.semWait barS a) k) Q) := by
  subst ha
  unfold due
  iintro ⟨#HR, Hc, ⟨%W, HO⟩, Hat⟩ Hk
  iapply (Rounds.wp_wait_rest_token 𝒱₀ ER (ringRd m) (c : Thread nD τ) none (κ := K (c, 0))
      (wpE_semWait_eq 𝒱₀ (c : Thread nD τ) none Set.univ) (Set.mem_univ _) () (O := Owe c 6) (W := W) (R := 0) (m := 0) (T := ∅)
      (by rw [Nat.zero_add]; exact (expect_bar m c).symm)) $$ [Hc HO Hat]
  · isplitr; · iapply (recs_inv m K (c, 0)); iexact HR
    isplitl [Hc]; · iexact Hc
    isplitl [HO]; · iexact HO
    isplitr; · iapply (mayWait c (csem 0) 6 (by rw [kOf_csem]; decide)); iapply (recs_lev m K); iexact HR
    iexact Hat
  iintro ⟨HO, Hat, -, Hpay⟩
  ihave Hp := (Entails.of_eq (show bigSep ((ringRd m).duties ((c : Thread nD τ), SemLoc.reg barS) 0 \ ∅) (fun d => (ringRd m).payload ((c : Thread nD τ), SemLoc.reg barS) 0 d) = _ from rest_bar m c)) $$ Hpay
  iapply Hk
  isplitl [HO]; · iexists _; iexact HO
  isplitl [Hat]; · iexact Hat
  iexact Hp

/-! ## The names of the semaphores -/

theorem snd0 : ((cc0_scratch4.slice (Rect.unit (s := S6) ![0] ![1] inb_S6_S1_0)).squeeze S_ squeezes_S1_S_).sem = (⟨4, by decide⟩ : DmaSem sig) := rfl
theorem snd1 : ((cc0_scratch4.slice (Rect.unit (s := S6) ![1] ![1] inb_S6_S1_1)).squeeze S_ squeezes_S1_S_).sem = (⟨5, by decide⟩ : DmaSem sig) := rfl
theorem snd2 : ((cc0_scratch4.slice (Rect.unit (s := S6) ![2] ![1] inb_S6_S1_2)).squeeze S_ squeezes_S1_S_).sem = (⟨6, by decide⟩ : DmaSem sig) := rfl
theorem snd3 : ((cc0_scratch4.slice (Rect.unit (s := S6) ![3] ![1] inb_S6_S1_3)).squeeze S_ squeezes_S1_S_).sem = (⟨7, by decide⟩ : DmaSem sig) := rfl
theorem snd4 : ((cc0_scratch4.slice (Rect.unit (s := S6) ![4] ![1] inb_S6_S1_4)).squeeze S_ squeezes_S1_S_).sem = (⟨8, by decide⟩ : DmaSem sig) := rfl
theorem snd5 : ((cc0_scratch4.slice (Rect.unit (s := S6) ![5] ![1] inb_S6_S1_5)).squeeze S_ squeezes_S1_S_).sem = (⟨9, by decide⟩ : DmaSem sig) := rfl
theorem rcv0 : ((cc0_scratch5.slice (Rect.unit (s := S6) ![0] ![1] inb_S6_S1_0)).squeeze S_ squeezes_S1_S_).sem = (⟨10, by decide⟩ : DmaSem sig) := rfl
theorem rcv1 : ((cc0_scratch5.slice (Rect.unit (s := S6) ![1] ![1] inb_S6_S1_1)).squeeze S_ squeezes_S1_S_).sem = (⟨11, by decide⟩ : DmaSem sig) := rfl
theorem rcv2 : ((cc0_scratch5.slice (Rect.unit (s := S6) ![2] ![1] inb_S6_S1_2)).squeeze S_ squeezes_S1_S_).sem = (⟨12, by decide⟩ : DmaSem sig) := rfl
theorem rcv3 : ((cc0_scratch5.slice (Rect.unit (s := S6) ![3] ![1] inb_S6_S1_3)).squeeze S_ squeezes_S1_S_).sem = (⟨13, by decide⟩ : DmaSem sig) := rfl
theorem rcv4 : ((cc0_scratch5.slice (Rect.unit (s := S6) ![4] ![1] inb_S6_S1_4)).squeeze S_ squeezes_S1_S_).sem = (⟨14, by decide⟩ : DmaSem sig) := rfl
theorem rcv5 : ((cc0_scratch5.slice (Rect.unit (s := S6) ![5] ![1] inb_S6_S1_5)).squeeze S_ squeezes_S1_S_).sem = (⟨15, by decide⟩ : DmaSem sig) := rfl
theorem cpy0 : ((cc0_scratch6.slice (Rect.unit (s := S4) ![0] ![1] inb_S4_S1_0)).squeeze S_ squeezes_S1_S_).sem = (⟨16, by decide⟩ : DmaSem sig) := rfl
theorem cpy1 : ((cc0_scratch6.slice (Rect.unit (s := S4) ![1] ![1] inb_S4_S1_1)).squeeze S_ squeezes_S1_S_).sem = (⟨17, by decide⟩ : DmaSem sig) := rfl
theorem cpy2 : ((cc0_scratch6.slice (Rect.unit (s := S4) ![2] ![1] inb_S4_S1_2)).squeeze S_ squeezes_S1_S_).sem = (⟨18, by decide⟩ : DmaSem sig) := rfl
theorem cpy3 : ((cc0_scratch6.slice (Rect.unit (s := S4) ![3] ![1] inb_S4_S1_3)).squeeze S_ squeezes_S1_S_).sem = (⟨19, by decide⟩ : DmaSem sig) := rfl

/-! ## The computed windows -/

section Pays
variable (s : F .f32) (x : IVec S512x4096 8) (w : IVec S4096x2048 8)
theorem pay2_eq : k0_pay2 s x w = shapeCast S1x512x2048 (yv s x w) shapeCasts_S512x2048_S1x512x2048 := by
  unfold k0_pay2; simp only [shapeCast_self]; rfl
theorem pay3_eq : k0_pay3 s x w = shapeCast S1x512x2048 (yv s x w) shapeCasts_S512x2048_S1x512x2048 := by
  unfold k0_pay3; simp only [shapeCast_self]; rfl
theorem pay5_eq : k0_pay5 s (k0_pay4 (F := F) x w) = shapeCast S1x512x2048 (yv s x w) shapeCasts_S512x2048_S1x512x2048 := by
  unfold k0_pay5 k0_pay4; simp only [shapeCast_self]; rfl
theorem pay6_eq : k0_pay6 s x w = shapeCast S1x512x2048 (yv s x w) shapeCasts_S512x2048_S1x512x2048 := by
  unfold k0_pay6; simp only [shapeCast_self]; rfl
theorem pay8_eq : k0_pay8 (k0_pay7 s x w) = shapeCast S1x512x2048 (yv s x w) shapeCasts_S512x2048_S1x512x2048 := by
  unfold k0_pay8 k0_pay7; simp only [shapeCast_self]; rfl
theorem pay9_eq : k0_pay9 s x w = shapeCast S1x512x2048 (yv s x w) shapeCasts_S512x2048_S1x512x2048 := by
  unfold k0_pay9; simp only [shapeCast_self]; rfl
theorem pay11_eq : k0_pay11 s x (k0_pay10 (F := F) w) (constantI S512x2048 32 0#32) = shapeCast S1x512x2048 (yv s x w) shapeCasts_S512x2048_S1x512x2048 := by
  unfold k0_pay11 k0_pay10; simp only [shapeCast_self]; rfl
theorem pay13_eq : k0_pay13 (k0_pay12 s x w) = shapeCast S1x512x2048 (yv s x w) shapeCasts_S512x2048_S1x512x2048 := by
  unfold k0_pay13 k0_pay12; simp only [shapeCast_self]; rfl
end Pays

section Halves
variable (X : S1024x4096.Idx → Elt F .i8)
theorem hf_top : (tM xM).view.read (Elt F) X = hf X (0 : Fin 2).val := (if_pos rfl).symm
theorem hf_bot : (bM xM).view.read (Elt F) X = hf X (1 : Fin 2).val := (if_neg (by decide)).symm
theorem fl_top : (tM flM).view.read (Elt F) X = hf X (0 : Fin 2).val := hf_top X
theorem fl_bot : (bM flM).view.read (Elt F) X = hf X (1 : Fin 2).val := hf_bot X
theorem fr_top : (tM frM).view.read (Elt F) X = hf X (0 : Fin 2).val := hf_top X
theorem fr_bot : (bM frM).view.read (Elt F) X = hf X (1 : Fin 2).val := hf_bot X
theorem op_top : (tM opM).view.read (Elt F) X = hf X (0 : Fin 2).val := hf_top X
theorem op_bot : (bM opM).view.read (Elt F) X = hf X (1 : Fin 2).val := hf_bot X
end Halves

/-! Which window each copy fills. -/
section Offs
variable (c : Dev nD)
theorem w1 : k0_off1 c = ![1024 * c.val + 512 * (0 : Fin 2).val, 0] := by revert c; decide +kernel
theorem w2 : k0_off2 c = ![1024 * c.val + 512 * (1 : Fin 2).val, 0] := by revert c; decide +kernel
theorem w3 : k0_off3 c = ![1024 * (prv c).val + 512 * (0 : Fin 2).val, 0] := by revert c; decide +kernel
theorem w41 : k0_off4 c 1#32 = ![1024 * (nxt c).val + 512 * (1 : Fin 2).val, 0] := by revert c; decide +kernel
theorem w42 : k0_off4 c 2#32 = ![1024 * (prv (prv c)).val + 512 * (1 : Fin 2).val, 0] := by revert c; decide +kernel
theorem w5 : k0_off5 c = ![1024 * (prv c).val + 512 * (1 : Fin 2).val, 0] := by revert c; decide +kernel
theorem w61 : k0_off6 c 1#32 = ![1024 * (nxt c).val + 512 * (0 : Fin 2).val, 0] := by revert c; decide +kernel
theorem w62 : k0_off6 c 2#32 = ![1024 * (prv (prv c)).val + 512 * (0 : Fin 2).val, 0] := by revert c; decide +kernel
end Offs

/-- The window of the result on device `c` that half `h` of device `d`'s block makes. -/
abbrev yW (c d : Dev nD) (h : Fin 2) : FVec F S512x2048 .f32 := yv (scl m c) (hf (xstg m d) h.val) (wstg m c)

/-! ## The loads of the scales and of `w` -/

abbrev wP (c : Dev nD) : sProp 𝕄 := ((c : Thread nD τ).loc cc0_stg1_0) ↦{fullShare} (wstg m c)
abbrev sxP (c : Dev nD) : sProp 𝕄 := ((c : Thread nD τ).loc cc0_stg2_0) ↦{fullShare} (sxstg m c)
abbrev swP (c : Dev nD) : sProp 𝕄 := ((c : Thread nD τ).loc cc0_stg3_0) ↦{fullShare} (swstg m c)

theorem hz1 : (![0] : Fin 1 → Nat) = fun _ => 0 := funext fun a => by fin_cases a; rfl

theorem wp_ldsx (c : Dev nD) (f : S1.Idx → Elt F .f32) {hl} {α : Type} {Q : α → sProp 𝕄} {k : _ → Prog (TpuEff nD τ sig (Elt F) Λ₀ .tc) α} :
    (((c : Thread nD τ).loc cc0_stg2_0) ↦{fullShare} f : sProp 𝕄)
      ⊢ iprop(((((c : Thread nD τ).loc cc0_stg2_0) ↦{fullShare} f) -∗ bwp c (k f) Q) -∗ bwp c (.op (.load sxM rS.toLoadRect hl) k) Q) := by
  have h := wp_load (defs := defs₀ (F := F)) (Γ := PendingWaitsCtx.empty) 𝒱₀ (c : Thread nD τ) none Set.univ (m := sxM) (r := rS.toLoadRect) (hl := hl) (k := k) (Q := Q) (S := Finset.univ) (q := fullShare) (f := f) (Finset.subset_univ _)
  rwa [show sxM.view.readAt (Elt F) rS.toLoadRect f = f from Memref.readAt_unit_zero (Elt F) cc0_stg2_0 hz1 _ f] at h
theorem wp_ldsw (c : Dev nD) (f : S1.Idx → Elt F .f32) {hl} {α : Type} {Q : α → sProp 𝕄} {k : _ → Prog (TpuEff nD τ sig (Elt F) Λ₀ .tc) α} :
    (((c : Thread nD τ).loc cc0_stg3_0) ↦{fullShare} f : sProp 𝕄)
      ⊢ iprop(((((c : Thread nD τ).loc cc0_stg3_0) ↦{fullShare} f) -∗ bwp c (k f) Q) -∗ bwp c (.op (.load swM rS.toLoadRect hl) k) Q) := by
  have h := wp_load (defs := defs₀ (F := F)) (Γ := PendingWaitsCtx.empty) 𝒱₀ (c : Thread nD τ) none Set.univ (m := swM) (r := rS.toLoadRect) (hl := hl) (k := k) (Q := Q) (S := Finset.univ) (q := fullShare) (f := f) (Finset.subset_univ _)
  rwa [show swM.view.readAt (Elt F) rS.toLoadRect f = f from Memref.readAt_unit_zero (Elt F) cc0_stg3_0 hz1 _ f] at h

/-! ## The parts -/

/-- A row of the staging buffer free to be overwritten. -/
abbrev yF (o : Fin 3 → ℕ) (ho : ∀ a, o a + S1x512x2048.size a ≤ S4x512x2048.size a) (c : Dev nD) : sProp 𝕄 := iprop(∃ f, pt (yS o ho) c fullShare f)
/-- A window of the result held, not yet written. -/
abbrev oF (p : Fin 2 → ℕ) (hp : ∀ a, p a + S512x2048.size a ≤ S4096x2048.size a) (c : Dev nD) : sProp 𝕄 := iprop(∃ f, pt (oS p hp) c fullShare f)
/-- A row on its way to a window of the result; the window once it is there. -/
abbrev oD (p : Fin 2 → ℕ) (hp : ∀ a, p a + S512x2048.size a ≤ S4096x2048.size a) (c : Dev nD) : sProp 𝕄 := pt (oS p hp) c fullShare (outC m c)
abbrev fly (c : Dev nD) (q : DmaSem sig) (p : Fin 2 → ℕ) (hp : ∀ a, p a + S512x2048.size a ≤ S4096x2048.size a)
    (o : Fin 3 → ℕ) (ho : ∀ a, o a + S1x512x2048.size a ≤ S4x512x2048.size a) : sProp 𝕄 :=
  Flight EC (c : Thread nD τ) (.dma q) () NO iprop(pt (oS p hp) c fullShare (outC m c) ∗ ∃ f, pt (yS o ho) c fullShare f)

theorem part1 (c : Dev nD) {Q} :
    (iprop(∀ v2 v13 v24 v35, Q ⟨c, v2, v13, v24, v35⟩) : sProp 𝕄) ⊢ bwp c (k0_part1 (F := F) xM (Memref.isWhole_whole _) wM (Memref.isWhole_whole _) sxM (Memref.isWhole_whole _) swM (Memref.isWhole_whole _) outM (Memref.isWhole_whole _) flM (Memref.isWhole_whole _) frM (Memref.isWhole_whole _) opM (Memref.isWhole_whole _) yM (Memref.isWhole_whole _) cc0_scratch4 cc0_scratch5 cc0_scratch6) Q := by
  rw [k0_part1_eq_skeleton]; unfold k0_part1_skel
  simp only [Prog.lift, Prog.bind_op, Prog.bind_ret, Prog.pure_eq_ret, wp_deviceId]
  iintro H
  iapply (bwp_ret c _ Q); iapply H

/-- The handshake with both neighbours, the scales, the two copies to the next device. -/
theorem part2 (c : Dev nD) (v13 v24 : BitVec 32) {Q} :
    iprop(recs m K ∗ due c 8 ∗ dutyTok ER (kcell (prv c, 0)) 0 false ∗ dutyTok ER (kcell (nxt c, 0)) 0 true
        ∗ pay m (prv c) 0 false ∗ pay m (nxt c) 0 true
        ∗ cred (tallyAt (kcell (c, 0)) () 2) ∗ fresh c 0 ∗ sxP m c ∗ swP m c
        ∗ pt (tM xM) c fullShare.left (xstg m c) ∗ pt (bM xM) c fullShare.left (xstg m c)
        ∗ tok c 1 ∗ tok (nxt c) 7 ∗ tok c 2 ∗ tok (nxt c) 8)
      ⊢ iprop((∀ v a, due c 4 ∗ done c 0 ∗ sxP m c ∗ swP m c ∗ crd c 1 ∗ crd c 2
          ∗ (∃ f, pt (tM opM) (nxt c) fullShare f) ∗ pay m c 0 true -∗ Q ⟨scl m c, v, a⟩)
        -∗ bwp c (k0_part2 (F := F) xM (Memref.isWhole_whole _) wM (Memref.isWhole_whole _) sxM (Memref.isWhole_whole _) swM (Memref.isWhole_whole _) outM (Memref.isWhole_whole _) flM (Memref.isWhole_whole _) frM (Memref.isWhole_whole _) opM (Memref.isWhole_whole _) yM (Memref.isWhole_whole _) cc0_scratch4 cc0_scratch5 cc0_scratch6 c v13 v24) Q) := by
  rw [k0_part2_eq_skeleton]; unfold k0_part2_skel
  simp only [semSignalWord, semWaitWord, smemLoad, smemLoadElt, Prog.lift, Prog.bind_op, Prog.bind_ret, Prog.pure_eq_ret, snd0, snd1, rcv0, rcv1, dev1_eq c, dev2_eq c]
  iintro ⟨#HR, HO, Ht1, Ht2, Hp1, Hp2, Hc0, Ha0, Hsx, Hsw, Hx0, Hx1, Hts1, Htr1, Hts2, Htr2⟩ Hk
  iapply (wp_sig m K c (prv c) false 7 rfl (mem_duties m (prv c) 0) (by decide)) $$ [HO Ht1 Hp1]
  · isplitr; · iexact HR
    isplitl [HO]; · iexact HO
    isplitl [Ht1] <;> iassumption
  iintro HO
  iapply (wp_sig m K c (nxt c) true 6 rfl (mem_duties_true m (nxt c)) (by decide)) $$ [HO Ht2 Hp2]
  · isplitr; · iexact HR
    isplitl [HO]; · iexact HO
    isplitl [Ht2] <;> iassumption
  iintro HO
  iapply (wp_bar m K c (by decide)) $$ [HO Hc0 Ha0]
  · isplitr; · iexact HR
    isplitl [Hc0]; · iexact Hc0
    isplitl [HO] <;> iassumption
  iintro ⟨HO, Ha0, Hpf, Hpt⟩
  ihave Hpf' := (Entails.of_eq (show pay m c 0 false = iprop((∃ f, pt (tM flM) (nxt c) fullShare f) ∗ (∃ f, pt (bM flM) (nxt c) fullShare f) ∗ (∃ f, pt (tM opM) (nxt c) fullShare f)) from rfl)) $$ Hpf
  icases Hpf' with ⟨Hft, Hfb, Hot⟩
  iapply (wp_ldsx c _) $$ Hsx; iintro Hsx
  iapply (wp_ldsw c _) $$ Hsw; iintro Hsw
  rw [eq_i1 (Shape.Idx.first _)]
  iapply (wp_send m K c _ (nxt c) (dev3_eq c) 5 1 7 ⟨rfl, rfl, rfl⟩ (by decide) (by decide) _ _ rfl rfl (tM xM) (tM flM) rfl fullShare.left (xstg m c) (xstg m c) rfl rfl
    (by show pt (tM flM) (nxt c) fullShare (xstg m (prv (nxt c))) = _; rw [prv_nxt])) $$ [HO Hx0 Hft Hts1 Htr1]
  · isplitr; · iexact HR
    isplitl [Hx0]; · iexact Hx0
    isplitl [Hft]; · iexact Hft
    isplitl [HO]; · iexact HO
    isplitl [Hts1] <;> iassumption
  iintro ⟨Hc1, HO⟩
  iapply (wp_send m K c _ (nxt c) (dev4_eq c) 4 2 8 ⟨rfl, rfl, rfl⟩ (by decide) (by decide) _ _ rfl rfl (bM xM) (bM flM) rfl fullShare.left (xstg m c) (xstg m c) rfl rfl
    (by show pt (bM flM) (nxt c) fullShare (xstg m (prv (nxt c))) = _; rw [prv_nxt])) $$ [HO Hx1 Hfb Hts2 Htr2]
  · isplitr; · iexact HR
    isplitl [Hx1]; · iexact Hx1
    isplitl [Hfb]; · iexact Hfb
    isplitl [HO]; · iexact HO
    isplitl [Hts2] <;> iassumption
  iintro ⟨Hc2, HO⟩
  rw [show k0_pay1 (sxstg m c i1) (swstg m c i1) = scl m c from rfl]
  iapply (bwp_ret c _ Q); iapply Hk
  isplitl [HO]; · iexact HO
  isplitl [Ha0]; · iexact Ha0
  isplitl [Hsx]; · iexact Hsx
  isplitl [Hsw]; · iexact Hsw
  isplitl [Hc1]; · iexact Hc1
  isplitl [Hc2]; · iexact Hc2
  isplitl [Hot] <;> iassumption

/-- The two copies to the previous device; the first window computed. -/
theorem part3 (c : Dev nD) (v2 v13 v60 a : BitVec 32) {Q} :
    iprop(recs m K
        ∗ due c 4
        ∗ pt (bM xM) c fullShare.right.left (xstg m c)
        ∗ pt (tM xM) c fullShare.right.left (xstg m c)
        ∗ pt (tM xM) c fullShare.right.right (xstg m c)
        ∗ pay m c 0 true
        ∗ tok c 3
        ∗ tok (prv c) 9
        ∗ tok c 4
        ∗ tok (prv c) 10
        ∗ wP m c
        ∗ yF ![0, 0, 0] inb_S4x512x2048_S1x512x2048_0_0_0 c)
      ⊢ iprop((due c 2
            ∗ crd c 3
            ∗ crd c 4
            ∗ (∃ f, pt (bM opM) (prv c) fullShare f)
            ∗ pt (tM xM) c fullShare.right.right (xstg m c)
            ∗ wP m c
            ∗ ySt ![0, 0, 0] inb_S4x512x2048_S1x512x2048_0_0_0 c (yW m c c 0) -∗ Q ⟨⟩)
        -∗ bwp c (k0_part3 (F := F) xM (Memref.isWhole_whole _) wM (Memref.isWhole_whole _) sxM (Memref.isWhole_whole _) swM (Memref.isWhole_whole _) outM (Memref.isWhole_whole _) flM (Memref.isWhole_whole _) frM (Memref.isWhole_whole _) opM (Memref.isWhole_whole _) yM (Memref.isWhole_whole _) cc0_scratch4 cc0_scratch5 cc0_scratch6 c v2 v13 (scl m c) v60 a) Q) := by
  rw [k0_part3_eq_skeleton]; unfold k0_part3_skel
  simp only [Prog.lift, Prog.bind_op, Prog.bind_ret, Prog.pure_eq_ret, snd2, snd3, rcv2, rcv3]
  iintro ⟨#HR, HO, Hx3, Hx4, Hx0, Hpt, Hts3, Htr9, Hts4, Htr10, Hw, Hy0⟩ Hk
  ihave Hpt' := (Entails.of_eq (show pay m c 0 true = iprop((∃ f, pt (bM frM) (prv c) fullShare f) ∗ (∃ f, pt (tM frM) (prv c) fullShare f) ∗ (∃ f, pt (bM opM) (prv c) fullShare f)) from rfl)) $$ Hpt
  icases Hpt' with ⟨Hrb, Hrt, Hob⟩
  iapply (wp_send m K c _ (prv c) (dev5_eq c) 3 3 9 ⟨rfl, rfl, rfl⟩ (by decide) (by decide) _ _ rfl rfl (bM xM) (bM frM) rfl fullShare.right.left (xstg m c) (xstg m c) rfl rfl
    (by show pt (bM frM) (prv c) fullShare (xstg m (nxt (prv c))) = _; rw [nxt_prv])) $$ [HO Hx3 Hrb Hts3 Htr9]
  · isplitr; · iexact HR
    isplitl [Hx3]; · iexact Hx3
    isplitl [Hrb]; · iexact Hrb
    isplitl [HO]; · iexact HO
    isplitl [Hts3]; · iexact Hts3
    iexact Htr9
  iintro ⟨Hc3, HO⟩
  iapply (wp_send m K c _ (prv c) (dev6_eq c) 2 4 10 ⟨rfl, rfl, rfl⟩ (by decide) (by decide) _ _ rfl rfl (tM xM) (tM frM) rfl fullShare.right.left (xstg m c) (xstg m c) rfl rfl
    (by show pt (tM frM) (prv c) fullShare (xstg m (nxt (prv c))) = _; rw [nxt_prv])) $$ [HO Hx4 Hrt Hts4 Htr10]
  · isplitr; · iexact HR
    isplitl [Hx4]; · iexact Hx4
    isplitl [Hrt]; · iexact Hrt
    isplitl [HO]; · iexact HO
    isplitl [Hts4]; · iexact Hts4
    iexact Htr10
  iintro ⟨Hc4, HO⟩
  iapply (wp_ldhalf c xM rT (fun _ => rfl) fullShare.right.right (xstg m c)) $$ Hx0; iintro Hx0
  rw [hf_top]
  iapply (wp_ldw c (wstg m c)) $$ Hw; iintro Hw
  iapply (wp_yload c ![0, 0, 0] inb_S4x512x2048_S1x512x2048_0_0_0) $$ Hy0; iintro %_ Hy0
  iapply (wp_ystore c ![0, 0, 0] inb_S4x512x2048_S1x512x2048_0_0_0 _ (yW m c c 0) (pay2_eq _ _ _)) $$ Hy0; iintro Hy0
  iapply (bwp_ret c _ Q); iapply Hk
  isplitl [HO]; · iexact HO
  isplitl [Hc3]; · iexact Hc3
  isplitl [Hc4]; · iexact Hc4
  isplitl [Hob]; · iexact Hob
  isplitl [Hx0]; · iexact Hx0
  isplitl [Hw]; · iexact Hw
  iexact Hy0

/-- The first window on its way; the second computed and on its way; the top of the previous device's block is here. -/
theorem part4 (c : Dev nD) (v2 v24 : BitVec 32) {Q} :
    iprop(recs m K
        ∗ due c 2
        ∗ ySt ![0, 0, 0] inb_S4x512x2048_S1x512x2048_0_0_0 c (yW m c c 0)
        ∗ oF (k0_off1 c) (k0_off1_inb c) c
        ∗ semVal ((c : Thread nD τ), .dma (⟨16, by decide⟩ : DmaSem sig)) 0
        ∗ pt (bM xM) c fullShare.right.right (xstg m c)
        ∗ wP m c
        ∗ yF ![1, 0, 0] inb_S4x512x2048_S1x512x2048_1_0_0 c
        ∗ oF (k0_off2 c) (k0_off2_inb c) c
        ∗ semVal ((c : Thread nD τ), .dma (⟨17, by decide⟩ : DmaSem sig)) 0
        ∗ crd c 7
        ∗ fresh c 7)
      ⊢ iprop((fly m c ⟨16, by decide⟩ (k0_off1 c) (k0_off1_inb c) ![0, 0, 0] inb_S4x512x2048_S1x512x2048_0_0_0
            ∗ pt (bM xM) c fullShare.right.right (xstg m c)
            ∗ wP m c
            ∗ fly m c ⟨17, by decide⟩ (k0_off2 c) (k0_off2_inb c) ![1, 0, 0] inb_S4x512x2048_S1x512x2048_1_0_0
            ∗ due c 2
            ∗ done c 7
            ∗ pt (tM flM) c fullShare (xstg m (prv c)) -∗ Q ⟨⟩)
        -∗ bwp c (k0_part4 (F := F) xM (Memref.isWhole_whole _) wM (Memref.isWhole_whole _) sxM (Memref.isWhole_whole _) swM (Memref.isWhole_whole _) outM (Memref.isWhole_whole _) flM (Memref.isWhole_whole _) frM (Memref.isWhole_whole _) opM (Memref.isWhole_whole _) yM (Memref.isWhole_whole _) cc0_scratch4 cc0_scratch5 cc0_scratch6 c v2 v24 (scl m c)) Q) := by
  rw [k0_part4_eq_skeleton]; unfold k0_part4_skel
  simp only [Prog.lift, Prog.bind_op, Prog.bind_ret, Prog.pure_eq_ret, cpy0, cpy1, rcv0]
  iintro ⟨#HR, HO, Hy0, Ho1, Hs0, Hx1, Hw, Hy1, Ho2, Hs1, Hc7, Hf7⟩ Hk
  icases Ho1 with ⟨%fo, Ho1⟩
  iapply (wp_yenq m c c 0 ![0, 0, 0] inb_S4x512x2048_S1x512x2048_0_0_0 (k0_off1 c) (k0_off1_inb c) (w1 c) _ fo) $$ [Hy0 Ho1 Hs0]
  · isplitl [Hy0]; · iexact Hy0
    isplitl [Ho1]; · iexact Ho1
    iexact Hs0
  iintro HF0
  iapply (wp_ldhalf c xM rB (fun _ => rfl) fullShare.right.right (xstg m c)) $$ Hx1; iintro Hx1
  rw [hf_bot]
  iapply (wp_ldw c (wstg m c)) $$ Hw; iintro Hw
  iapply (wp_yload c ![1, 0, 0] inb_S4x512x2048_S1x512x2048_1_0_0) $$ Hy1; iintro %_ Hy1
  iapply (wp_ystore c ![1, 0, 0] inb_S4x512x2048_S1x512x2048_1_0_0 _ (yW m c c 1) (pay3_eq _ _ _)) $$ Hy1; iintro Hy1
  icases Ho2 with ⟨%fo, Ho2⟩
  iapply (wp_yenq m c c 1 ![1, 0, 0] inb_S4x512x2048_S1x512x2048_1_0_0 (k0_off2 c) (k0_off2_inb c) (w2 c) _ fo) $$ [Hy1 Ho2 Hs1]
  · isplitl [Hy1]; · iexact Hy1
    isplitl [Ho2]; · iexact Ho2
    iexact Hs1
  iintro HF1
  iapply (wp_wait m K c 7 (by decide) _ rfl (tM flM) rfl 2 (by decide) (pt (tM flM) c fullShare (xstg m (prv c))) rfl) $$ [Hc7 HO Hf7]
  · isplitr; · iexact HR
    isplitl [Hc7]; · iexact Hc7
    isplitl [HO]; · iexact HO
    iexact Hf7
  iintro ⟨HO, Hd7, Hl0⟩
  iapply (bwp_ret c _ Q); iapply Hk
  isplitl [HF0]; · iexact HF0
  isplitl [Hx1]; · iexact Hx1
  isplitl [Hw]; · iexact Hw
  isplitl [HF1]; · iexact HF1
  isplitl [HO]; · iexact HO
  isplitl [Hd7]; · iexact Hd7
  iexact Hl0

/-- The two relayed copies. -/
theorem part5 (c : Dev nD) (v13 v24 : BitVec 32) {Q} :
    iprop(recs m K
        ∗ due c 2
        ∗ pt (tM flM) c fullShare (xstg m (prv c))
        ∗ (∃ f, pt (tM opM) (nxt c) fullShare f)
        ∗ tok c 5
        ∗ tok (nxt c) 11
        ∗ crd c 9
        ∗ fresh c 9
        ∗ (∃ f, pt (bM opM) (prv c) fullShare f)
        ∗ tok c 6
        ∗ tok (prv c) 12
        ∗ wP m c)
      ⊢ iprop((∀ v, due c 0
            ∗ crd c 5
            ∗ crd c 6
            ∗ pt (tM flM) c fullShare.right (xstg m (prv c))
            ∗ pt (bM frM) c fullShare.right (xstg m (nxt c))
            ∗ wP m c
            ∗ done c 9 -∗ Q ⟨v, k0_pay4 (F := F) (hf (xstg m (prv c)) (0 : Fin 2).val) (wstg m c)⟩)
        -∗ bwp c (k0_part5 (F := F) xM (Memref.isWhole_whole _) wM (Memref.isWhole_whole _) sxM (Memref.isWhole_whole _) swM (Memref.isWhole_whole _) outM (Memref.isWhole_whole _) flM (Memref.isWhole_whole _) frM (Memref.isWhole_whole _) opM (Memref.isWhole_whole _) yM (Memref.isWhole_whole _) cc0_scratch4 cc0_scratch5 cc0_scratch6 c v13 v24) Q) := by
  rw [k0_part5_eq_skeleton]; unfold k0_part5_skel
  simp only [Prog.lift, Prog.bind_op, Prog.bind_ret, Prog.pure_eq_ret, snd4, snd5, rcv4, rcv5, rcv2]
  iintro ⟨#HR, HO, Hl0, Hot, Hts5, Htr11, Hc9, Hf9, Hob, Hts6, Htr12, Hw⟩ Hk
  ihave Hl := (pt_left (tM flM) c (xstg m (prv c))).1 $$ Hl0
  icases Hl with ⟨Hll, Hl0⟩
  iapply (wp_send m K c _ (nxt c) (dev7_eq c) 1 5 11 ⟨rfl, rfl, rfl⟩ (by decide) (by decide) _ _ rfl rfl (tM flM) (tM opM) rfl fullShare.left (xstg m (prv c)) (xstg m (prv c)) rfl rfl
    (by show pt (tM opM) (nxt c) fullShare (xstg m (prv (prv (nxt c)))) = _; rw [prv_nxt])) $$ [HO Hll Hot Hts5 Htr11]
  · isplitr; · iexact HR
    isplitl [Hll]; · iexact Hll
    isplitl [Hot]; · iexact Hot
    isplitl [HO]; · iexact HO
    isplitl [Hts5]; · iexact Hts5
    iexact Htr11
  iintro ⟨Hc5, HO⟩
  iapply (wp_wait m K c 9 (by decide) _ rfl (bM frM) rfl 1 (by decide) (pt (bM frM) c fullShare (xstg m (nxt c))) rfl) $$ [Hc9 HO Hf9]
  · isplitr; · iexact HR
    isplitl [Hc9]; · iexact Hc9
    isplitl [HO]; · iexact HO
    iexact Hf9
  iintro ⟨HO, Hd9, Hr⟩
  ihave Hr' := (pt_left (bM frM) c (xstg m (nxt c))).1 $$ Hr
  icases Hr' with ⟨Hrl, Hr1⟩
  iapply (wp_send m K c _ (prv c) (dev8_eq c) 0 6 12 ⟨rfl, rfl, rfl⟩ (by decide) (by decide) _ _ rfl rfl (bM frM) (bM opM) rfl fullShare.left (xstg m (nxt c)) (xstg m (nxt c)) rfl rfl
    (by show pt (bM opM) (prv c) fullShare (xstg m (prv (prv (prv c)))) = _; rw [← nxt_nxt, nxt_prv])) $$ [HO Hrl Hob Hts6 Htr12]
  · isplitr; · iexact HR
    isplitl [Hrl]; · iexact Hrl
    isplitl [Hob]; · iexact Hob
    isplitl [HO]; · iexact HO
    isplitl [Hts6]; · iexact Hts6
    iexact Htr12
  iintro ⟨Hc6, HO⟩
  iapply (wp_ldhalf c flM rT (fun _ => rfl) fullShare.right (xstg m (prv c))) $$ Hl0; iintro Hl0
  rw [fl_top]
  iapply (wp_ldw c (wstg m c)) $$ Hw; iintro Hw
  iapply (bwp_ret c _ Q); iapply Hk
  isplitl [HO]; · iexact HO
  isplitl [Hc5]; · iexact Hc5
  isplitl [Hc6]; · iexact Hc6
  isplitl [Hl0]; · iexact Hl0
  isplitl [Hr1]; · iexact Hr1
  isplitl [Hw]; · iexact Hw
  iexact Hd9

/-- The third window on its way, the fourth computed. -/
theorem part6 (c : Dev nD) (v24 v146 : BitVec 32) {Q} :
    iprop(yF ![2, 0, 0] inb_S4x512x2048_S1x512x2048_2_0_0 c
        ∗ oF (k0_off3 c) (k0_off3_inb c) c
        ∗ semVal ((c : Thread nD τ), .dma (⟨18, by decide⟩ : DmaSem sig)) 0
        ∗ pt (bM frM) c fullShare.right (xstg m (nxt c))
        ∗ wP m c
        ∗ yF ![3, 0, 0] inb_S4x512x2048_S1x512x2048_3_0_0 c)
      ⊢ iprop((fly m c ⟨18, by decide⟩ (k0_off3 c) (k0_off3_inb c) ![2, 0, 0] inb_S4x512x2048_S1x512x2048_2_0_0
            ∗ pt (bM frM) c fullShare.right (xstg m (nxt c))
            ∗ wP m c
            ∗ ySt ![3, 0, 0] inb_S4x512x2048_S1x512x2048_3_0_0 c (yW m c (nxt c) 1) -∗ Q ⟨⟩)
        -∗ bwp c (k0_part6 (F := F) xM (Memref.isWhole_whole _) wM (Memref.isWhole_whole _) sxM (Memref.isWhole_whole _) swM (Memref.isWhole_whole _) outM (Memref.isWhole_whole _) flM (Memref.isWhole_whole _) frM (Memref.isWhole_whole _) opM (Memref.isWhole_whole _) yM (Memref.isWhole_whole _) cc0_scratch4 cc0_scratch5 cc0_scratch6 c v24 (scl m c) v146 (k0_pay4 (F := F) (hf (xstg m (prv c)) (0 : Fin 2).val) (wstg m c))) Q) := by
  rw [k0_part6_eq_skeleton]; unfold k0_part6_skel
  simp only [Prog.lift, Prog.bind_op, Prog.bind_ret, Prog.pure_eq_ret, cpy2]
  iintro ⟨Hy2, Ho3, Hs2, Hr1, Hw, Hy3⟩ Hk
  iapply (wp_yload c ![2, 0, 0] inb_S4x512x2048_S1x512x2048_2_0_0) $$ Hy2; iintro %_ Hy2
  iapply (wp_ystore c ![2, 0, 0] inb_S4x512x2048_S1x512x2048_2_0_0 _ (yW m c (prv c) 0) (pay5_eq _ _ _)) $$ Hy2; iintro Hy2
  icases Ho3 with ⟨%fo, Ho3⟩
  iapply (wp_yenq m c (prv c) 0 ![2, 0, 0] inb_S4x512x2048_S1x512x2048_2_0_0 (k0_off3 c) (k0_off3_inb c) (w3 c) _ fo) $$ [Hy2 Ho3 Hs2]
  · isplitl [Hy2]; · iexact Hy2
    isplitl [Ho3]; · iexact Ho3
    iexact Hs2
  iintro HF2
  iapply (wp_ldhalf c frM rB (fun _ => rfl) fullShare.right (xstg m (nxt c))) $$ Hr1; iintro Hr1
  rw [fr_bot]
  iapply (wp_ldw c (wstg m c)) $$ Hw; iintro Hw
  iapply (wp_yload c ![3, 0, 0] inb_S4x512x2048_S1x512x2048_3_0_0) $$ Hy3; iintro %_ Hy3
  iapply (wp_ystore c ![3, 0, 0] inb_S4x512x2048_S1x512x2048_3_0_0 _ (yW m c (nxt c) 1) (pay6_eq _ _ _)) $$ Hy3; iintro Hy3
  iapply (bwp_ret c _ Q); iapply Hk
  isplitl [HF2]; · iexact HF2
  isplitl [Hr1]; · iexact Hr1
  isplitl [Hw]; · iexact Hw
  iexact Hy3

/-- The fourth window on its way; the other halves of the neighbours' blocks are here; the first window is done. -/
theorem part7 (c : Dev nD) (v13 v24 : BitVec 32) {Q} :
    iprop(recs m K
        ∗ due c 0
        ∗ ySt ![3, 0, 0] inb_S4x512x2048_S1x512x2048_3_0_0 c (yW m c (nxt c) 1)
        ∗ oF (k0_off4 c 1#32) (k0_off4_inb c 0) c
        ∗ semVal ((c : Thread nD τ), .dma (⟨19, by decide⟩ : DmaSem sig)) 0
        ∗ crd c 8
        ∗ fresh c 8
        ∗ crd c 10
        ∗ fresh c 10
        ∗ fly m c ⟨16, by decide⟩ (k0_off1 c) (k0_off1_inb c) ![0, 0, 0] inb_S4x512x2048_S1x512x2048_0_0_0
        ∗ wP m c)
      ⊢ iprop((∀ v, fly m c ⟨19, by decide⟩ (k0_off4 c 1#32) (k0_off4_inb c 0) ![3, 0, 0] inb_S4x512x2048_S1x512x2048_3_0_0
            ∗ due c 0
            ∗ done c 8
            ∗ done c 10
            ∗ pt (bM flM) c fullShare (xstg m (prv c))
            ∗ pt (tM frM) c fullShare (xstg m (nxt c))
            ∗ oD m (k0_off1 c) (k0_off1_inb c) c
            ∗ yF ![0, 0, 0] inb_S4x512x2048_S1x512x2048_0_0_0 c
            ∗ semVal ((c : Thread nD τ), .dma (⟨16, by decide⟩ : DmaSem sig)) 0
            ∗ wP m c -∗ Q ⟨v, k0_pay7 (scl m c) (hf (xstg m (prv c)) (1 : Fin 2).val) (wstg m c)⟩)
        -∗ bwp c (k0_part7 (F := F) xM (Memref.isWhole_whole _) wM (Memref.isWhole_whole _) sxM (Memref.isWhole_whole _) swM (Memref.isWhole_whole _) outM (Memref.isWhole_whole _) flM (Memref.isWhole_whole _) frM (Memref.isWhole_whole _) opM (Memref.isWhole_whole _) yM (Memref.isWhole_whole _) cc0_scratch4 cc0_scratch5 cc0_scratch6 c v13 v24 (scl m c)) Q) := by
  rw [k0_part7_eq_skeleton]; unfold k0_part7_skel
  simp only [Prog.lift, Prog.bind_op, Prog.bind_ret, Prog.pure_eq_ret, cpy3, cpy0, rcv1, rcv3]
  iintro ⟨#HR, HO, Hy3, Ho41, Hs3, Hc8, Hf8, Hc10, Hf10, HF0, Hw⟩ Hk
  icases Ho41 with ⟨%fo, Ho41⟩
  iapply (wp_yenq m c (nxt c) 1 ![3, 0, 0] inb_S4x512x2048_S1x512x2048_3_0_0 (k0_off4 c 1#32) (k0_off4_inb c 0) (w41 c) _ fo) $$ [Hy3 Ho41 Hs3]
  · isplitl [Hy3]; · iexact Hy3
    isplitl [Ho41]; · iexact Ho41
    iexact Hs3
  iintro HF3
  iapply (wp_wait m K c 8 (by decide) _ rfl (bM flM) rfl 0 (by decide) (pt (bM flM) c fullShare (xstg m (prv c))) rfl) $$ [Hc8 HO Hf8]
  · isplitr; · iexact HR
    isplitl [Hc8]; · iexact Hc8
    isplitl [HO]; · iexact HO
    iexact Hf8
  iintro ⟨HO, Hd8, Hl1⟩
  iapply (wp_wait m K c 10 (by decide) _ rfl (tM frM) rfl 0 (by decide) (pt (tM frM) c fullShare (xstg m (nxt c))) rfl) $$ [Hc10 HO Hf10]
  · isplitr; · iexact HR
    isplitl [Hc10]; · iexact Hc10
    isplitl [HO]; · iexact HO
    iexact Hf10
  iintro ⟨HO, Hd10, Hr0⟩
  iapply (wp_ldhalf c flM rB (fun _ => rfl) fullShare (xstg m (prv c))) $$ Hl1; iintro Hl1
  rw [fl_bot]
  iapply (wp_ywait c (p := k0_off1 c) _) $$ [HF0 HO]
  · isplitl [HF0]; · iexact HF0
    iexact HO
  iintro ⟨⟨Ho1, Hy0⟩, Hs0, HO⟩
  iapply (wp_ldw c (wstg m c)) $$ Hw; iintro Hw
  iapply (bwp_ret c _ Q); iapply Hk
  isplitl [HF3]; · iexact HF3
  isplitl [HO]; · iexact HO
  isplitl [Hd8]; · iexact Hd8
  isplitl [Hd10]; · iexact Hd10
  isplitl [Hl1]; · iexact Hl1
  isplitl [Hr0]; · iexact Hr0
  isplitl [Ho1]; · iexact Ho1
  isplitl [Hy0]; · iexact Hy0
  isplitl [Hs0]; · iexact Hs0
  iexact Hw

/-- The fifth window on its way; the second is done; the sixth computed. -/
theorem part8 (c : Dev nD) (v24 v198 : BitVec 32) {Q} :
    iprop(due c 0
        ∗ yF ![0, 0, 0] inb_S4x512x2048_S1x512x2048_0_0_0 c
        ∗ oF (k0_off5 c) (k0_off5_inb c) c
        ∗ semVal ((c : Thread nD τ), .dma (⟨16, by decide⟩ : DmaSem sig)) 0
        ∗ pt (tM frM) c fullShare (xstg m (nxt c))
        ∗ fly m c ⟨17, by decide⟩ (k0_off2 c) (k0_off2_inb c) ![1, 0, 0] inb_S4x512x2048_S1x512x2048_1_0_0
        ∗ wP m c)
      ⊢ iprop((due c 0
            ∗ fly m c ⟨16, by decide⟩ (k0_off5 c) (k0_off5_inb c) ![0, 0, 0] inb_S4x512x2048_S1x512x2048_0_0_0
            ∗ pt (tM frM) c fullShare (xstg m (nxt c))
            ∗ oD m (k0_off2 c) (k0_off2_inb c) c
            ∗ semVal ((c : Thread nD τ), .dma (⟨17, by decide⟩ : DmaSem sig)) 0
            ∗ wP m c
            ∗ ySt ![1, 0, 0] inb_S4x512x2048_S1x512x2048_1_0_0 c (yW m c (nxt c) 0) -∗ Q ⟨⟩)
        -∗ bwp c (k0_part8 (F := F) xM (Memref.isWhole_whole _) wM (Memref.isWhole_whole _) sxM (Memref.isWhole_whole _) swM (Memref.isWhole_whole _) outM (Memref.isWhole_whole _) flM (Memref.isWhole_whole _) frM (Memref.isWhole_whole _) opM (Memref.isWhole_whole _) yM (Memref.isWhole_whole _) cc0_scratch4 cc0_scratch5 cc0_scratch6 c v24 (scl m c) v198 (k0_pay7 (scl m c) (hf (xstg m (prv c)) (1 : Fin 2).val) (wstg m c))) Q) := by
  rw [k0_part8_eq_skeleton]; unfold k0_part8_skel
  simp only [Prog.lift, Prog.bind_op, Prog.bind_ret, Prog.pure_eq_ret, cpy0, cpy1]
  iintro ⟨HO, Hy0, Ho5, Hs0, Hr0, HF1, Hw⟩ Hk
  iapply (wp_yload c ![0, 0, 0] inb_S4x512x2048_S1x512x2048_0_0_0) $$ Hy0; iintro %_ Hy0
  iapply (wp_ystore c ![0, 0, 0] inb_S4x512x2048_S1x512x2048_0_0_0 _ (yW m c (prv c) 1) (pay8_eq _ _ _)) $$ Hy0; iintro Hy0
  icases Ho5 with ⟨%fo, Ho5⟩
  iapply (wp_yenq m c (prv c) 1 ![0, 0, 0] inb_S4x512x2048_S1x512x2048_0_0_0 (k0_off5 c) (k0_off5_inb c) (w5 c) _ fo) $$ [Hy0 Ho5 Hs0]
  · isplitl [Hy0]; · iexact Hy0
    isplitl [Ho5]; · iexact Ho5
    iexact Hs0
  iintro HF0
  iapply (wp_ldhalf c frM rT (fun _ => rfl) fullShare (xstg m (nxt c))) $$ Hr0; iintro Hr0
  rw [fr_top]
  iapply (wp_ywait c (p := k0_off2 c) _) $$ [HF1 HO]
  · isplitl [HF1]; · iexact HF1
    iexact HO
  iintro ⟨⟨Ho2, Hy1⟩, Hs1, HO⟩
  iapply (wp_ldw c (wstg m c)) $$ Hw; iintro Hw
  iapply (wp_yload c ![1, 0, 0] inb_S4x512x2048_S1x512x2048_1_0_0) $$ Hy1; iintro %_ Hy1
  iapply (wp_ystore c ![1, 0, 0] inb_S4x512x2048_S1x512x2048_1_0_0 _ (yW m c (nxt c) 0) (pay9_eq _ _ _)) $$ Hy1; iintro Hy1
  iapply (bwp_ret c _ Q); iapply Hk
  isplitl [HO]; · iexact HO
  isplitl [HF0]; · iexact HF0
  isplitl [Hr0]; · iexact Hr0
  isplitl [Ho2]; · iexact Ho2
  isplitl [Hs1]; · iexact Hs1
  isplitl [Hw]; · iexact Hw
  iexact Hy1

/-- The sixth window on its way; the opposite device's block is here; the third window is done. -/
theorem part9 (c : Dev nD) (v13 v24 v35 : BitVec 32) {Q} :
    iprop(recs m K
        ∗ due c 0
        ∗ ySt ![1, 0, 0] inb_S4x512x2048_S1x512x2048_1_0_0 c (yW m c (nxt c) 0)
        ∗ oF (k0_off6 c 1#32) (k0_off6_inb c 0) c
        ∗ semVal ((c : Thread nD τ), .dma (⟨17, by decide⟩ : DmaSem sig)) 0
        ∗ crd c 11
        ∗ fresh c 11
        ∗ crd c 12
        ∗ fresh c 12
        ∗ fly m c ⟨18, by decide⟩ (k0_off3 c) (k0_off3_inb c) ![2, 0, 0] inb_S4x512x2048_S1x512x2048_2_0_0
        ∗ wP m c)
      ⊢ iprop((∀ v, due c 0
            ∗ fly m c ⟨17, by decide⟩ (k0_off6 c 1#32) (k0_off6_inb c 0) ![1, 0, 0] inb_S4x512x2048_S1x512x2048_1_0_0
            ∗ done c 11
            ∗ done c 12
            ∗ pt (tM opM) c fullShare (xstg m (prv (prv c)))
            ∗ pt (bM opM) c fullShare (xstg m (prv (prv c)))
            ∗ oD m (k0_off3 c) (k0_off3_inb c) c
            ∗ yF ![2, 0, 0] inb_S4x512x2048_S1x512x2048_2_0_0 c
            ∗ semVal ((c : Thread nD τ), .dma (⟨18, by decide⟩ : DmaSem sig)) 0
            ∗ wP m c -∗ Q ⟨hf (xstg m (prv (prv c))) (0 : Fin 2).val, v, k0_pay10 (F := F) (wstg m c), constantI S512x2048 32 0#32⟩)
        -∗ bwp c (k0_part9 (F := F) xM (Memref.isWhole_whole _) wM (Memref.isWhole_whole _) sxM (Memref.isWhole_whole _) swM (Memref.isWhole_whole _) outM (Memref.isWhole_whole _) flM (Memref.isWhole_whole _) frM (Memref.isWhole_whole _) opM (Memref.isWhole_whole _) yM (Memref.isWhole_whole _) cc0_scratch4 cc0_scratch5 cc0_scratch6 c v13 v24 v35) Q) := by
  rw [k0_part9_eq_skeleton]; unfold k0_part9_skel
  simp only [Prog.lift, Prog.bind_op, Prog.bind_ret, Prog.pure_eq_ret, cpy1, cpy2, rcv4, rcv5]
  iintro ⟨#HR, HO, Hy1, Ho61, Hs1, Hc11, Hf11, Hc12, Hf12, HF2, Hw⟩ Hk
  icases Ho61 with ⟨%fo, Ho61⟩
  iapply (wp_yenq m c (nxt c) 0 ![1, 0, 0] inb_S4x512x2048_S1x512x2048_1_0_0 (k0_off6 c 1#32) (k0_off6_inb c 0) (w61 c) _ fo) $$ [Hy1 Ho61 Hs1]
  · isplitl [Hy1]; · iexact Hy1
    isplitl [Ho61]; · iexact Ho61
    iexact Hs1
  iintro HF1
  iapply (wp_wait m K c 11 (by decide) _ rfl (tM opM) rfl 0 (by decide) (pt (tM opM) c fullShare (xstg m (prv (prv c)))) rfl) $$ [Hc11 HO Hf11]
  · isplitr; · iexact HR
    isplitl [Hc11]; · iexact Hc11
    isplitl [HO]; · iexact HO
    iexact Hf11
  iintro ⟨HO, Hd11, Hp0⟩
  iapply (wp_wait m K c 12 (by decide) _ rfl (bM opM) rfl 0 (by decide) (pt (bM opM) c fullShare (xstg m (prv (prv c)))) rfl) $$ [Hc12 HO Hf12]
  · isplitr; · iexact HR
    isplitl [Hc12]; · iexact Hc12
    isplitl [HO]; · iexact HO
    iexact Hf12
  iintro ⟨HO, Hd12, Hp1⟩
  iapply (wp_ldhalf c opM rT (fun _ => rfl) fullShare (xstg m (prv (prv c)))) $$ Hp0; iintro Hp0
  rw [op_top]
  iapply (wp_ywait c (p := k0_off3 c) _) $$ [HF2 HO]
  · isplitl [HF2]; · iexact HF2
    iexact HO
  iintro ⟨⟨Ho3, Hy2⟩, Hs2, HO⟩
  iapply (wp_ldw c (wstg m c)) $$ Hw; iintro Hw
  iapply (bwp_ret c _ Q); iapply Hk
  isplitl [HO]; · iexact HO
  isplitl [HF1]; · iexact HF1
  isplitl [Hd11]; · iexact Hd11
  isplitl [Hd12]; · iexact Hd12
  isplitl [Hp0]; · iexact Hp0
  isplitl [Hp1]; · iexact Hp1
  isplitl [Ho3]; · iexact Ho3
  isplitl [Hy2]; · iexact Hy2
  isplitl [Hs2]; · iexact Hs2
  iexact Hw

/-- The seventh window on its way; the fourth is done; the eighth computed. -/
theorem part10 (c : Dev nD) (v35 v258 : BitVec 32) {Q} :
    iprop(due c 0
        ∗ yF ![2, 0, 0] inb_S4x512x2048_S1x512x2048_2_0_0 c
        ∗ oF (k0_off6 c 2#32) (k0_off6_inb c 1) c
        ∗ semVal ((c : Thread nD τ), .dma (⟨18, by decide⟩ : DmaSem sig)) 0
        ∗ pt (bM opM) c fullShare (xstg m (prv (prv c)))
        ∗ fly m c ⟨19, by decide⟩ (k0_off4 c 1#32) (k0_off4_inb c 0) ![3, 0, 0] inb_S4x512x2048_S1x512x2048_3_0_0
        ∗ wP m c)
      ⊢ iprop((∀ v, due c 0
            ∗ fly m c ⟨18, by decide⟩ (k0_off6 c 2#32) (k0_off6_inb c 1) ![2, 0, 0] inb_S4x512x2048_S1x512x2048_2_0_0
            ∗ pt (bM opM) c fullShare (xstg m (prv (prv c)))
            ∗ oD m (k0_off4 c 1#32) (k0_off4_inb c 0) c
            ∗ yF ![3, 0, 0] inb_S4x512x2048_S1x512x2048_3_0_0 c
            ∗ semVal ((c : Thread nD τ), .dma (⟨19, by decide⟩ : DmaSem sig)) 0
            ∗ wP m c -∗ Q ⟨v, k0_pay12 (scl m c) (hf (xstg m (prv (prv c))) (1 : Fin 2).val) (wstg m c)⟩)
        -∗ bwp c (k0_part10 (F := F) xM (Memref.isWhole_whole _) wM (Memref.isWhole_whole _) sxM (Memref.isWhole_whole _) swM (Memref.isWhole_whole _) outM (Memref.isWhole_whole _) flM (Memref.isWhole_whole _) frM (Memref.isWhole_whole _) opM (Memref.isWhole_whole _) yM (Memref.isWhole_whole _) cc0_scratch4 cc0_scratch5 cc0_scratch6 c v35 (scl m c) (hf (xstg m (prv (prv c))) (0 : Fin 2).val) v258 (k0_pay10 (F := F) (wstg m c)) (constantI S512x2048 32 0#32)) Q) := by
  rw [k0_part10_eq_skeleton]; unfold k0_part10_skel
  simp only [Prog.lift, Prog.bind_op, Prog.bind_ret, Prog.pure_eq_ret, cpy2, cpy3]
  iintro ⟨HO, Hy2, Ho62, Hs2, Hp1, HF3, Hw⟩ Hk
  iapply (wp_yload c ![2, 0, 0] inb_S4x512x2048_S1x512x2048_2_0_0) $$ Hy2; iintro %_ Hy2
  iapply (wp_ystore c ![2, 0, 0] inb_S4x512x2048_S1x512x2048_2_0_0 _ (yW m c (prv (prv c)) 0) (pay11_eq _ _ _)) $$ Hy2; iintro Hy2
  icases Ho62 with ⟨%fo, Ho62⟩
  iapply (wp_yenq m c (prv (prv c)) 0 ![2, 0, 0] inb_S4x512x2048_S1x512x2048_2_0_0 (k0_off6 c 2#32) (k0_off6_inb c 1) (w62 c) _ fo) $$ [Hy2 Ho62 Hs2]
  · isplitl [Hy2]; · iexact Hy2
    isplitl [Ho62]; · iexact Ho62
    iexact Hs2
  iintro HF2
  iapply (wp_ldhalf c opM rB (fun _ => rfl) fullShare (xstg m (prv (prv c)))) $$ Hp1; iintro Hp1
  rw [op_bot]
  iapply (wp_ywait c (p := k0_off4 c 1#32) _) $$ [HF3 HO]
  · isplitl [HF3]; · iexact HF3
    iexact HO
  iintro ⟨⟨Ho41, Hy3⟩, Hs3, HO⟩
  iapply (wp_ldw c (wstg m c)) $$ Hw; iintro Hw
  iapply (wp_yload c ![3, 0, 0] inb_S4x512x2048_S1x512x2048_3_0_0) $$ Hy3; iintro %_ Hy3
  iapply (bwp_ret c _ Q); iapply Hk
  isplitl [HO]; · iexact HO
  isplitl [HF2]; · iexact HF2
  isplitl [Hp1]; · iexact Hp1
  isplitl [Ho41]; · iexact Ho41
  isplitl [Hy3]; · iexact Hy3
  isplitl [Hs3]; · iexact Hs3
  iexact Hw

/-- The eighth window on its way; the first three copies' sources are back. -/
theorem part11 (c : Dev nD) (v283 : BitVec 32) {Q} :
    iprop(recs m K
        ∗ due c 0
        ∗ yF ![3, 0, 0] inb_S4x512x2048_S1x512x2048_3_0_0 c
        ∗ oF (k0_off4 c 2#32) (k0_off4_inb c 1) c
        ∗ semVal ((c : Thread nD τ), .dma (⟨19, by decide⟩ : DmaSem sig)) 0
        ∗ crd c 1
        ∗ fresh c 1
        ∗ crd c 2
        ∗ fresh c 2
        ∗ crd c 3
        ∗ fresh c 3)
      ⊢ iprop((due c 0
            ∗ fly m c ⟨19, by decide⟩ (k0_off4 c 2#32) (k0_off4_inb c 1) ![3, 0, 0] inb_S4x512x2048_S1x512x2048_3_0_0
            ∗ done c 1
            ∗ done c 2
            ∗ done c 3
            ∗ pt (tM xM) c fullShare.left (xstg m c)
            ∗ pt (bM xM) c fullShare.left (xstg m c)
            ∗ pt (bM xM) c fullShare.right.left (xstg m c) -∗ Q ⟨⟩)
        -∗ bwp c (k0_part11 (F := F) xM (Memref.isWhole_whole _) wM (Memref.isWhole_whole _) sxM (Memref.isWhole_whole _) swM (Memref.isWhole_whole _) outM (Memref.isWhole_whole _) flM (Memref.isWhole_whole _) frM (Memref.isWhole_whole _) opM (Memref.isWhole_whole _) yM (Memref.isWhole_whole _) cc0_scratch4 cc0_scratch5 cc0_scratch6 c v283 (k0_pay12 (scl m c) (hf (xstg m (prv (prv c))) (1 : Fin 2).val) (wstg m c))) Q) := by
  rw [k0_part11_eq_skeleton]; unfold k0_part11_skel
  simp only [Prog.lift, Prog.bind_op, Prog.bind_ret, Prog.pure_eq_ret, cpy3, snd0, snd1, snd2]
  iintro ⟨#HR, HO, Hy3, Ho42, Hs3, Hc1, Hf1, Hc2, Hf2, Hc3, Hf3⟩ Hk
  iapply (wp_ystore c ![3, 0, 0] inb_S4x512x2048_S1x512x2048_3_0_0 _ (yW m c (prv (prv c)) 1) (pay13_eq _ _ _)) $$ Hy3; iintro Hy3
  icases Ho42 with ⟨%fo, Ho42⟩
  iapply (wp_yenq m c (prv (prv c)) 1 ![3, 0, 0] inb_S4x512x2048_S1x512x2048_3_0_0 (k0_off4 c 2#32) (k0_off4_inb c 1) (w42 c) _ fo) $$ [Hy3 Ho42 Hs3]
  · isplitl [Hy3]; · iexact Hy3
    isplitl [Ho42]; · iexact Ho42
    iexact Hs3
  iintro HF3
  iapply (wp_wait m K c 1 (by decide) _ rfl (tM xM) rfl 0 (by decide) (pt (tM xM) c fullShare.left (xstg m c)) rfl) $$ [Hc1 HO Hf1]
  · isplitr; · iexact HR
    isplitl [Hc1]; · iexact Hc1
    isplitl [HO]; · iexact HO
    iexact Hf1
  iintro ⟨HO, Hd1, HX1⟩
  iapply (wp_wait m K c 2 (by decide) _ rfl (bM xM) rfl 0 (by decide) (pt (bM xM) c fullShare.left (xstg m c)) rfl) $$ [Hc2 HO Hf2]
  · isplitr; · iexact HR
    isplitl [Hc2]; · iexact Hc2
    isplitl [HO]; · iexact HO
    iexact Hf2
  iintro ⟨HO, Hd2, HX2⟩
  iapply (wp_wait m K c 3 (by decide) _ rfl (bM xM) rfl 0 (by decide) (pt (bM xM) c fullShare.right.left (xstg m c)) rfl) $$ [Hc3 HO Hf3]
  · isplitr; · iexact HR
    isplitl [Hc3]; · iexact Hc3
    isplitl [HO]; · iexact HO
    iexact Hf3
  iintro ⟨HO, Hd3, HX3⟩
  iapply (bwp_ret c _ Q); iapply Hk
  isplitl [HO]; · iexact HO
  isplitl [HF3]; · iexact HF3
  isplitl [Hd1]; · iexact Hd1
  isplitl [Hd2]; · iexact Hd2
  isplitl [Hd3]; · iexact Hd3
  isplitl [HX1]; · iexact HX1
  isplitl [HX2]; · iexact HX2
  iexact HX3

/-- The other three copies' sources are back; three more windows are done. -/
theorem part12 (c : Dev nD)  {Q} :
    iprop(recs m K
        ∗ due c 0
        ∗ crd c 4
        ∗ fresh c 4
        ∗ crd c 5
        ∗ fresh c 5
        ∗ crd c 6
        ∗ fresh c 6
        ∗ fly m c ⟨16, by decide⟩ (k0_off5 c) (k0_off5_inb c) ![0, 0, 0] inb_S4x512x2048_S1x512x2048_0_0_0
        ∗ fly m c ⟨17, by decide⟩ (k0_off6 c 1#32) (k0_off6_inb c 0) ![1, 0, 0] inb_S4x512x2048_S1x512x2048_1_0_0
        ∗ fly m c ⟨18, by decide⟩ (k0_off6 c 2#32) (k0_off6_inb c 1) ![2, 0, 0] inb_S4x512x2048_S1x512x2048_2_0_0)
      ⊢ iprop((due c 0
            ∗ done c 4
            ∗ done c 5
            ∗ done c 6
            ∗ pt (tM xM) c fullShare.right.left (xstg m c)
            ∗ pt (tM flM) c fullShare.left (xstg m (prv c))
            ∗ pt (bM frM) c fullShare.left (xstg m (nxt c))
            ∗ oD m (k0_off5 c) (k0_off5_inb c) c
            ∗ yF ![0, 0, 0] inb_S4x512x2048_S1x512x2048_0_0_0 c
            ∗ semVal ((c : Thread nD τ), .dma (⟨16, by decide⟩ : DmaSem sig)) 0
            ∗ oD m (k0_off6 c 1#32) (k0_off6_inb c 0) c
            ∗ yF ![1, 0, 0] inb_S4x512x2048_S1x512x2048_1_0_0 c
            ∗ semVal ((c : Thread nD τ), .dma (⟨17, by decide⟩ : DmaSem sig)) 0
            ∗ oD m (k0_off6 c 2#32) (k0_off6_inb c 1) c
            ∗ yF ![2, 0, 0] inb_S4x512x2048_S1x512x2048_2_0_0 c
            ∗ semVal ((c : Thread nD τ), .dma (⟨18, by decide⟩ : DmaSem sig)) 0 -∗ Q ⟨⟩)
        -∗ bwp c (k0_part12 (F := F) xM (Memref.isWhole_whole _) wM (Memref.isWhole_whole _) sxM (Memref.isWhole_whole _) swM (Memref.isWhole_whole _) outM (Memref.isWhole_whole _) flM (Memref.isWhole_whole _) frM (Memref.isWhole_whole _) opM (Memref.isWhole_whole _) yM (Memref.isWhole_whole _) cc0_scratch4 cc0_scratch5 cc0_scratch6 c) Q) := by
  rw [k0_part12_eq_skeleton]; unfold k0_part12_skel
  simp only [Prog.lift, Prog.bind_op, Prog.bind_ret, Prog.pure_eq_ret, snd3, snd4, snd5, cpy0, cpy1, cpy2]
  iintro ⟨#HR, HO, Hc4, Hf4, Hc5, Hf5, Hc6, Hf6, HF0, HF1, HF2⟩ Hk
  iapply (wp_wait m K c 4 (by decide) _ rfl (tM xM) rfl 0 (by decide) (pt (tM xM) c fullShare.right.left (xstg m c)) rfl) $$ [Hc4 HO Hf4]
  · isplitr; · iexact HR
    isplitl [Hc4]; · iexact Hc4
    isplitl [HO]; · iexact HO
    iexact Hf4
  iintro ⟨HO, Hd4, HX4⟩
  iapply (wp_wait m K c 5 (by decide) _ rfl (tM flM) rfl 0 (by decide) (pt (tM flM) c fullShare.left (xstg m (prv c))) rfl) $$ [Hc5 HO Hf5]
  · isplitr; · iexact HR
    isplitl [Hc5]; · iexact Hc5
    isplitl [HO]; · iexact HO
    iexact Hf5
  iintro ⟨HO, Hd5, HX5⟩
  iapply (wp_wait m K c 6 (by decide) _ rfl (bM frM) rfl 0 (by decide) (pt (bM frM) c fullShare.left (xstg m (nxt c))) rfl) $$ [Hc6 HO Hf6]
  · isplitr; · iexact HR
    isplitl [Hc6]; · iexact Hc6
    isplitl [HO]; · iexact HO
    iexact Hf6
  iintro ⟨HO, Hd6, HX6⟩
  iapply (wp_ywait c (p := k0_off5 c) _) $$ [HF0 HO]
  · isplitl [HF0]; · iexact HF0
    iexact HO
  iintro ⟨⟨Ho5, Hy0⟩, Hs0, HO⟩
  iapply (wp_ywait c (p := k0_off6 c 1#32) _) $$ [HF1 HO]
  · isplitl [HF1]; · iexact HF1
    iexact HO
  iintro ⟨⟨Ho61, Hy1⟩, Hs1, HO⟩
  iapply (wp_ywait c (p := k0_off6 c 2#32) _) $$ [HF2 HO]
  · isplitl [HF2]; · iexact HF2
    iexact HO
  iintro ⟨⟨Ho62, Hy2⟩, Hs2, HO⟩
  iapply (bwp_ret c _ Q); iapply Hk
  isplitl [HO]; · iexact HO
  isplitl [Hd4]; · iexact Hd4
  isplitl [Hd5]; · iexact Hd5
  isplitl [Hd6]; · iexact Hd6
  isplitl [HX4]; · iexact HX4
  isplitl [HX5]; · iexact HX5
  isplitl [HX6]; · iexact HX6
  isplitl [Ho5]; · iexact Ho5
  isplitl [Hy0]; · iexact Hy0
  isplitl [Hs0]; · iexact Hs0
  isplitl [Ho61]; · iexact Ho61
  isplitl [Hy1]; · iexact Hy1
  isplitl [Hs1]; · iexact Hs1
  isplitl [Ho62]; · iexact Ho62
  isplitl [Hy2]; · iexact Hy2
  iexact Hs2

end Cert.AllGather

end
-- ==== Proof.Split.lean ====
/-
# The result as its eight windows, the staging buffer as its four rows
-/
module

public import proofs.«01_k».proof.Proof.Parts

@[expose] public section

noncomputable section

namespace Cert.AllGather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)

/-! ## The result -/

/-- The elements of a window of the result. -/
def wset (t : Dev nD × Fin 2) : Finset S4096x2048.Idx :=
  (Rect.unit (s := S4096x2048) ![1024 * t.1.val + 512 * t.2.val, 0] S512x2048.size (oW_inb t.1 t.2)).set

theorem wset_disj (t t' : Dev nD × Fin 2) (h : t ≠ t') : Disjoint (wset t) (wset t') := by
  refine Rect.unit_disjoint 0 ?_
  have h' : t.1.val ≠ t'.1.val ∨ t.2.val ≠ t'.2.val := by
    by_contra hc
    exact h (Prod.ext (Fin.ext (by omega)) (Fin.ext (by omega)))
  have := t.2.isLt; have := t'.2.isLt
  show 1024 * t.1.val + 512 * t.2.val + 512 ≤ 1024 * t'.1.val + 512 * t'.2.val ∨ 1024 * t'.1.val + 512 * t'.2.val + 512 ≤ 1024 * t.1.val + 512 * t.2.val
  omega

theorem wset_all : (Finset.univ : Finset S4096x2048.Idx) = Finset.univ.biUnion wset := by
  symm; rw [Finset.eq_univ_iff_forall]; intro i
  have h0 : (i 0).val < 4096 := (i 0).isLt
  have h1 : (i 1).val < 2048 := (i 1).isLt
  refine Finset.mem_biUnion.mpr ⟨(⟨(i 0).val / 1024, by show _ < 4; omega⟩, ⟨(i 0).val % 1024 / 512, by omega⟩), Finset.mem_univ _, ?_⟩
  refine Rect.mem_set_unit.mpr fun a => ?_
  match a with
  | ⟨0, _⟩ =>
    show 1024 * ((i 0).val / 1024) + 512 * ((i 0).val % 1024 / 512) ≤ (i 0).val ∧ (i 0).val < 1024 * ((i 0).val / 1024) + 512 * ((i 0).val % 1024 / 512) + 512
    omega
  | ⟨1, _⟩ => show 0 ≤ (i 1).val ∧ (i 1).val < 0 + 2048; omega

omit [FloatOps F] in
theorem pt_oS (c d : Dev nD) (h : Fin 2) {p : Fin 2 → ℕ} (hp) (hpd : p = ![1024 * d.val + 512 * h.val, 0]) (f : Buf (Elt F) ((c : Thread nD τ).loc main_v1)) :
    (pt (oS p hp) c fullShare f : sProp 𝕄) = (((c : Thread nD τ).loc main_v1) ↦[wset (d, h)]{fullShare} f) := by
  subst hpd
  unfold pt
  rw [show (oS ![1024 * d.val + 512 * h.val, 0] hp).view.set = wset (d, h) from View.set_slice_whole _ _]

theorem opp_list (c : Dev nD) : (Finset.univ : Finset (Dev nD × Fin 2))
    = [(c, (0 : Fin 2)), (c, 1), (prv c, 0), (nxt c, 1), (prv c, 1), (nxt c, 0), (prv (prv c), 0), (prv (prv c), 1)].toFinset := by revert c; decide
theorem opp_nodup (c : Dev nD) :
    [(c, (0 : Fin 2)), (c, 1), (prv c, 0), (nxt c, 1), (prv c, 1), (nxt c, 0), (prv (prv c), 0), (prv (prv c), 1)].Nodup := by revert c; decide

omit [FloatOps F] in
/-- The result on device `c`, window by window in the order they are copied. -/
theorem out_split (c : Dev nD) (f : Buf (Elt F) ((c : Thread nD τ).loc main_v1)) :
    (((c : Thread nD τ).loc main_v1) ↦{fullShare} f : sProp 𝕄)
      = iprop(pt (oS (k0_off1 c) (k0_off1_inb c)) c fullShare f ∗ pt (oS (k0_off2 c) (k0_off2_inb c)) c fullShare f
        ∗ pt (oS (k0_off3 c) (k0_off3_inb c)) c fullShare f ∗ pt (oS (k0_off4 c 1#32) (k0_off4_inb c 0)) c fullShare f
        ∗ pt (oS (k0_off5 c) (k0_off5_inb c)) c fullShare f ∗ pt (oS (k0_off6 c 1#32) (k0_off6_inb c 0)) c fullShare f
        ∗ pt (oS (k0_off6 c 2#32) (k0_off6_inb c 1)) c fullShare f ∗ pt (oS (k0_off4 c 2#32) (k0_off4_inb c 1)) c fullShare f) := by
  rw [pt_oS c c 0 _ (w1 c), pt_oS c c 1 _ (w2 c), pt_oS c (prv c) 0 _ (w3 c), pt_oS c (nxt c) 1 _ (w41 c), pt_oS c (prv c) 1 _ (w5 c),
    pt_oS c (nxt c) 0 _ (w61 c), pt_oS c (prv (prv c)) 0 _ (w62 c), pt_oS c (prv (prv c)) 1 _ (w42 c)]
  have h : (((c : Thread nD τ).loc main_v1) ↦{fullShare} f : sProp 𝕄)
      = bigSep Finset.univ fun t => ((c : Thread nD τ).loc main_v1) ↦[wset t]{fullShare} f :=
    (congrArg (fun I => (((c : Thread nD τ).loc main_v1) ↦[I]{fullShare} f : sProp 𝕄)) wset_all).trans
      (pointsTo_biUnion (ℓ := (c : Thread nD τ).loc main_v1) Finset.univ wset (fun t _ t' _ h => wset_disj t t' h))
  rw [h, bigSep_univ_eq_bigSepL _ (opp_list c) (opp_nodup c)]
  rfl

/-! ## The staging buffer -/

theorem yset_inb (t : Fin 4) : ∀ a, (![t.val, 0, 0] : Fin 3 → ℕ) a + S1x512x2048.size a ≤ S4x512x2048.size a := by revert t; decide
/-- The elements of a row. -/
def yset (t : Fin 4) : Finset S4x512x2048.Idx := (rY ![t.val, 0, 0] (yset_inb t)).set

theorem yset_disj (t t' : Fin 4) (h : t ≠ t') : Disjoint (yset t) (yset t') := by
  refine Rect.unit_disjoint 0 ?_
  have h' : t.val ≠ t'.val := fun e => h (Fin.ext e)
  show t.val + 1 ≤ t'.val ∨ t'.val + 1 ≤ t.val
  omega

theorem yset_all : (Finset.univ : Finset S4x512x2048.Idx) = Finset.univ.biUnion yset := by
  symm; rw [Finset.eq_univ_iff_forall]; intro i
  have h1 : (i 1).val < 512 := (i 1).isLt
  have h2 : (i 2).val < 2048 := (i 2).isLt
  refine Finset.mem_biUnion.mpr ⟨⟨(i 0).val, (i 0).isLt⟩, Finset.mem_univ _, ?_⟩
  refine Rect.mem_set_unit.mpr fun a => ?_
  match a with
  | ⟨0, _⟩ => show (i 0).val ≤ (i 0).val ∧ (i 0).val < (i 0).val + 1; omega
  | ⟨1, _⟩ => show 0 ≤ (i 1).val ∧ (i 1).val < 0 + 512; omega
  | ⟨2, _⟩ => show 0 ≤ (i 2).val ∧ (i 2).val < 0 + 2048; omega

omit [FloatOps F] in
theorem pt_yS (c : Dev nD) (t : Fin 4) {o : Fin 3 → ℕ} (ho) (hot : o = ![t.val, 0, 0]) (f : Buf (Elt F) ((c : Thread nD τ).loc cc0_scratch3)) :
    (pt (yS o ho) c fullShare f : sProp 𝕄) = (((c : Thread nD τ).loc cc0_scratch3) ↦[yset t]{fullShare} f) := by
  subst hot
  unfold pt
  rw [yS_set, show (yM.access (rY ![t.val, 0, 0] ho)).set = yset t from View.set_slice_whole _ _]

abbrev yF0 (c : Dev nD) : sProp 𝕄 := yF ![0, 0, 0] inb_S4x512x2048_S1x512x2048_0_0_0 c
abbrev yF1 (c : Dev nD) : sProp 𝕄 := yF ![1, 0, 0] inb_S4x512x2048_S1x512x2048_1_0_0 c
abbrev yF2 (c : Dev nD) : sProp 𝕄 := yF ![2, 0, 0] inb_S4x512x2048_S1x512x2048_2_0_0 c
abbrev yF3 (c : Dev nD) : sProp 𝕄 := yF ![3, 0, 0] inb_S4x512x2048_S1x512x2048_3_0_0 c

omit [FloatOps F] in
theorem y_split (c : Dev nD) (f : Buf (Elt F) ((c : Thread nD τ).loc cc0_scratch3)) :
    (((c : Thread nD τ).loc cc0_scratch3) ↦{fullShare} f : sProp 𝕄) ⊢ iprop(yF0 c ∗ yF1 c ∗ yF2 c ∗ yF3 c) := by
  have h : (((c : Thread nD τ).loc cc0_scratch3) ↦{fullShare} f : sProp 𝕄)
      = bigSep Finset.univ fun t => ((c : Thread nD τ).loc cc0_scratch3) ↦[yset t]{fullShare} f :=
    (congrArg (fun I => (((c : Thread nD τ).loc cc0_scratch3) ↦[I]{fullShare} f : sProp 𝕄)) yset_all).trans
      (pointsTo_biUnion (ℓ := (c : Thread nD τ).loc cc0_scratch3) Finset.univ yset (fun t _ t' _ h => yset_disj t t' h))
  rw [h, bigSep_univ_eq_bigSepL [0, 1, 2, 3] (by decide) (by decide)]
  simp only [bigSepL_cons_cons, bigSepL_singleton]
  rw [← pt_yS c 0 inb_S4x512x2048_S1x512x2048_0_0_0 rfl, ← pt_yS c 1 inb_S4x512x2048_S1x512x2048_1_0_0 rfl,
    ← pt_yS c 2 inb_S4x512x2048_S1x512x2048_2_0_0 rfl, ← pt_yS c 3 inb_S4x512x2048_S1x512x2048_3_0_0 rfl]
  show iprop(pt (yS ![0, 0, 0] inb_S4x512x2048_S1x512x2048_0_0_0) c fullShare f ∗ pt (yS ![1, 0, 0] inb_S4x512x2048_S1x512x2048_1_0_0) c fullShare f
      ∗ pt (yS ![2, 0, 0] inb_S4x512x2048_S1x512x2048_2_0_0) c fullShare f ∗ pt (yS ![3, 0, 0] inb_S4x512x2048_S1x512x2048_3_0_0) c fullShare f) ⊢ _
  iintro ⟨H0, H1, H2, H3⟩
  isplitl [H0]; · iexists f; iexact H0
  isplitl [H1]; · iexists f; iexact H1
  isplitl [H2]; · iexists f; iexact H2
  iexists f; iexact H3

omit [FloatOps F] in
theorem y_join (c : Dev nD) :
    (iprop(yF0 c ∗ yF1 c ∗ yF2 c ∗ yF3 c) : sProp 𝕄) ⊢ iprop(∃ f : Buf (Elt F) ((c : Thread nD τ).loc cc0_scratch3), ((c : Thread nD τ).loc cc0_scratch3) ↦{fullShare} f) := by
  iintro ⟨⟨%f0, H0⟩, ⟨%f1, H1⟩, ⟨%f2, H2⟩, ⟨%f3, H3⟩⟩
  ihave H := (show iprop(pt (yS ![0, 0, 0] inb_S4x512x2048_S1x512x2048_0_0_0) c fullShare f0 ∗ pt (yS ![1, 0, 0] inb_S4x512x2048_S1x512x2048_1_0_0) c fullShare f1
      ∗ pt (yS ![2, 0, 0] inb_S4x512x2048_S1x512x2048_2_0_0) c fullShare f2 ∗ pt (yS ![3, 0, 0] inb_S4x512x2048_S1x512x2048_3_0_0) c fullShare f3)
      ⊢ (bigSep Finset.univ fun t : Fin 4 => (((c : Thread nD τ).loc cc0_scratch3) ↦[yset t]{fullShare} ((![f0, f1, f2, f3] : Fin 4 → Buf (Elt F) ((c : Thread nD τ).loc cc0_scratch3)) t) : sProp 𝕄)) by
    rw [bigSep_univ_eq_bigSepL [0, 1, 2, 3] (by decide) (by decide)]
    simp only [bigSepL_cons_cons, bigSepL_singleton]
    rw [pt_yS c 0 inb_S4x512x2048_S1x512x2048_0_0_0 rfl, pt_yS c 1 inb_S4x512x2048_S1x512x2048_1_0_0 rfl,
      pt_yS c 2 inb_S4x512x2048_S1x512x2048_2_0_0 rfl, pt_yS c 3 inb_S4x512x2048_S1x512x2048_3_0_0 rfl]
    exact Entails.of_eq rfl) $$ [H0 H1 H2 H3]
  · isplitl [H0]; · iexact H0
    isplitl [H1]; · iexact H1
    isplitl [H2]; · iexact H2
    iexact H3
  ihave H' := (pointsTo_biUnion_join (ℓ := (c : Thread nD τ).loc cc0_scratch3) Finset.univ yset _ f0 (fun t _ t' _ h => yset_disj t t' h)) $$ H
  icases H' with ⟨%g, -, H'⟩
  iexists g
  ihave H'' := (Entails.of_eq (congrArg (fun I => (((c : Thread nD τ).loc cc0_scratch3) ↦[I]{fullShare} g : sProp 𝕄)) yset_all.symm)) $$ H'
  iexact H''

end Cert.AllGather

end
-- ==== Proof.Body.lean ====
/-
# The kernel body, from its parts
-/
module

public import proofs.«01_k».proof.Proof.Split

@[expose] public section

noncomputable section

namespace Cert.AllGather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 13 → ℕ)

omit [FloatOps F] in
theorem all13 (Φ : Fin 13 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12) :=
  bigSep_univ_eq_bigSepL [(0 : Fin 13), 1, 2, 3, 4, 5, 6, 7, 8, 9, 10, 11, 12] (by decide) (by decide) Φ

/-! ## What the body starts from and ends with -/

/-- The counter of the semaphore of copy number `i` into the result at zero. -/
abbrev cv (c : Dev nD) (q : DmaSem sig) : sProp 𝕄 := semVal ((c : Thread nD τ), .dma q) 0

/-- The tokens of the payments device `c` makes. -/
def toks (c : Dev nD) : sProp 𝕄 :=
  iprop(dutyTok ER (kcell (prv c, 0)) 0 false ∗ dutyTok ER (kcell (nxt c, 0)) 0 true
    ∗ tok c 1 ∗ tok c 2 ∗ tok c 3 ∗ tok c 4 ∗ tok c 5 ∗ tok c 6
    ∗ tok (nxt c) 7 ∗ tok (nxt c) 8 ∗ tok (prv c) 9 ∗ tok (prv c) 10 ∗ tok (nxt c) 11 ∗ tok (prv c) 12)

/-- Device `c`'s ghost state: what is known of the cells, its positions, its tokens and its four copy semaphores. -/
def ghost (c : Dev nD) : sProp 𝕄 :=
  iprop(recs m K ∗ (bigSep Finset.univ fun k : Fin 13 => fresh c k) ∗ toks c
    ∗ cv c ⟨16, by decide⟩ ∗ cv c ⟨17, by decide⟩ ∗ cv c ⟨18, by decide⟩ ∗ cv c ⟨19, by decide⟩)

/-- The credits it does not get by sending: two units at its barrier, one transfer at each cell it receives at. -/
def creds (c : Dev nD) : sProp 𝕄 :=
  iprop(cred (tallyAt (kcell (c, 0)) () 2) ∗ crd c 7 ∗ crd c 8 ∗ crd c 9 ∗ crd c 10 ∗ crd c 11 ∗ crd c 12)

/-- A whole buffer of device `c` at contents `f`, and at some contents. -/
abbrev own1 (c : Dev nD) (b : Ref sig .tc) (f : Buf (Elt F) ((c : Thread nD τ).loc b)) : sProp 𝕄 := ((c : Thread nD τ).loc b) ↦{fullShare} f
abbrev some1 (c : Dev nD) (b : Ref sig .tc) : sProp 𝕄 := iprop(∃ f : Buf (Elt F) ((c : Thread nD τ).loc b), own1 c b f)

def scratch (c : Dev nD) : sProp 𝕄 := iprop(some1 c cc0_scratch0 ∗ some1 c cc0_scratch1 ∗ some1 c cc0_scratch2 ∗ some1 c cc0_scratch3)

def start (c : Dev nD) : sProp 𝕄 := iprop((∃ K, ghost m K c) ∗ creds c ∗ some1 c main_v1)

def Φ₀ (c : Dev nD) : sProp 𝕄 := iprop(start m c ∗ scratch c)
/-- Afterwards: the scratch buffers, every counter at zero, and the result as it should be. -/
def Φ₁ (c : Dev nD) : sProp 𝕄 :=
  iprop(scratch c ∗ (bigSep Finset.univ fun k : Fin 13 => semVal (kcell (c, k)) 0)
    ∗ (cv c ⟨16, by decide⟩ ∗ cv c ⟨17, by decide⟩ ∗ cv c ⟨18, by decide⟩ ∗ cv c ⟨19, by decide⟩) ∗ own1 c main_v1 (outC m c))

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => wstg m c
    | ⟨2, _⟩ => sxstg m c
    | ⟨3, _⟩ => swstg m c
  Φ t := match t with
    | ⟨0, _⟩ => Φ₀ m c
    | ⟨_ + 1, _⟩ => Φ₁ m c
  q _ := fullShare
  owed t := match t with
    | ⟨0, _⟩ => Owe c 8
    | ⟨_ + 1, _⟩ => 0

/-! ## Splits and joins of the blocks -/

theorem own_pt (M : Memref sig .tc .vmem S1024x4096 .i8) (b : Ref sig .tc) (c : Dev nD) (q : PosShare TreeShare) (f : Buf (Elt F) (M.view.loc (c : Thread nD τ)))
    (g : Buf (Elt F) ((c : Thread nD τ).loc b))
    (h : (pt M c q f : sProp 𝕄) = (((c : Thread nD τ).loc b) ↦{q} g)) :
    ((((c : Thread nD τ).loc b) ↦{q} g : sProp 𝕄)) ⊣⊢ iprop(pt (tM M) c q f ∗ pt (bM M) c q f) := h ▸ pt_halves M c q f

omit [FloatOps F] in
theorem pt_xM (c : Dev nD) (q) (f : Buf (Elt F) ((c : Thread nD τ).loc cc0_stg0_0)) :
    (pt xM c q f : sProp 𝕄) = (((c : Thread nD τ).loc cc0_stg0_0) ↦{q} f) := by unfold pt; rw [View.set_whole]
omit [FloatOps F] in
theorem pt_flM (c : Dev nD) (q) (f : Buf (Elt F) ((c : Thread nD τ).loc cc0_scratch0)) :
    (pt flM c q f : sProp 𝕄) = (((c : Thread nD τ).loc cc0_scratch0) ↦{q} f) := by unfold pt; rw [View.set_whole]
omit [FloatOps F] in
theorem pt_frM (c : Dev nD) (q) (f : Buf (Elt F) ((c : Thread nD τ).loc cc0_scratch1)) :
    (pt frM c q f : sProp 𝕄) = (((c : Thread nD τ).loc cc0_scratch1) ↦{q} f) := by unfold pt; rw [View.set_whole]
omit [FloatOps F] in
theorem pt_opM (c : Dev nD) (q) (f : Buf (Elt F) ((c : Thread nD τ).loc cc0_scratch2)) :
    (pt opM c q f : sProp 𝕄) = (((c : Thread nD τ).loc cc0_scratch2) ↦{q} f) := by unfold pt; rw [View.set_whole]

/-- A whole gather buffer is its two halves. -/
theorem halves_of_whole (M : Memref sig .tc .vmem S1024x4096 .i8) (c : Dev nD) (f : Buf (Elt F) (M.view.loc (c : Thread nD τ))) :
    pt M c fullShare f ⊢ iprop((∃ f, pt (tM M) c fullShare f) ∗ (∃ f, pt (bM M) c fullShare f)) := by
  iintro H
  ihave H := ((pt_halves M c fullShare f).1) $$ H
  icases H with ⟨H1, H2⟩
  isplitl [H1]; · iexists f; iexact H1
  iexists f; iexact H2

/-- `x`'s block in the six pieces the body uses. -/
theorem x_pieces (c : Dev nD) (f : Buf (Elt F) (xM.view.loc (c : Thread nD τ))) :
    pt xM c fullShare f ⊣⊢ iprop((pt (tM xM) c fullShare.left f ∗ pt (tM xM) c fullShare.right.left f ∗ pt (tM xM) c fullShare.right.right f)
      ∗ (pt (bM xM) c fullShare.left f ∗ pt (bM xM) c fullShare.right.left f ∗ pt (bM xM) c fullShare.right.right f)) := by
  constructor
  · iintro H
    ihave H := ((pt_halves xM c fullShare f).1) $$ H
    icases H with ⟨Ht, Hb⟩
    ihave Ht := ((pt_left (tM xM) c f).1) $$ Ht
    icases Ht with ⟨Htl, Htr⟩
    ihave Htr := ((pt_right (tM xM) c f).1) $$ Htr
    ihave Hb := ((pt_left (bM xM) c f).1) $$ Hb
    icases Hb with ⟨Hbl, Hbr⟩
    ihave Hbr := ((pt_right (bM xM) c f).1) $$ Hbr
    isplitl [Htl Htr]
    · isplitl [Htl]; · iexact Htl
      iexact Htr
    isplitl [Hbl]; · iexact Hbl
    iexact Hbr
  · iintro ⟨⟨Htl, Htr⟩, ⟨Hbl, Hbr⟩⟩
    ihave Htr := ((pt_right (tM xM) c f).2) $$ Htr
    ihave Hbr := ((pt_right (bM xM) c f).2) $$ Hbr
    ihave Ht := ((pt_left (tM xM) c f).2) $$ [Htl Htr]
    · isplitl [Htl] <;> iassumption
    ihave Hb := ((pt_left (bM xM) c f).2) $$ [Hbl Hbr]
    · isplitl [Hbl] <;> iassumption
    iapply ((pt_halves xM c fullShare f).2)
    isplitl [Ht] <;> iassumption

/-- Both halves with the same contents are the whole. -/
theorem whole_of_halves (M : Memref sig .tc .vmem S1024x4096 .i8) (c : Dev nD) (f : Buf (Elt F) (M.view.loc (c : Thread nD τ))) :
    iprop(pt (tM M) c fullShare f ∗ pt (bM M) c fullShare f) ⊢ pt M c fullShare f := (pt_halves M c fullShare f).2

/-! ## The cells close -/

theorem closes (c : Dev nD) :
    iprop(recs m K ∗ (bigSep Finset.univ fun k : Fin 13 => done c k)) ⊢ (iprop(|={Set.univ}=> bigSep Finset.univ fun k : Fin 13 => semVal (kcell (c, k)) 0) : sProp 𝕄) := by
  refine BI.Entails.trans (bigSep_with_persistent (R := recs m K) (Ψ := fun k : Fin 13 => iprop(|={Set.univ}=> semVal (kcell (c, k)) 0)) fun k _ => ?_) (bigSep_fupd _ _)
  iintro ⟨#HR, Hd⟩
  iapply (Rounds.cell_close ER (ringRd m) (Set.mem_univ (K (c, k))) (fun h => h) (R := 0 + 1) (duties_later m (kcell (c, k))))
  isplitr; · iapply (recs_inv m K (c, k)); iexact HR
  iexact Hd

/-! ## The body -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxHeartbeats 1600000 in
theorem body_run (c : Dev nD) (Q : PUnit → sProp 𝕄) :
    iprop((ghost m K c ∗ creds c ∗ some1 c main_v1) ∗ scratch c ∗ due c 8 ∗ own1 c cc0_stg0_0 (xstg m c) ∗ wP m c ∗ sxP m c ∗ swP m c)
      ⊢ iprop((Φ₁ m c ∗ due c 0 ∗ own1 c cc0_stg0_0 (xstg m c) ∗ wP m c ∗ sxP m c ∗ swP m c -∗ Q ⟨⟩)
        -∗ bwp c (cc0_body (F := F) xM (Memref.isWhole_whole _) wM (Memref.isWhole_whole _) sxM (Memref.isWhole_whole _) swM (Memref.isWhole_whole _) outM (Memref.isWhole_whole _) flM (Memref.isWhole_whole _) frM (Memref.isWhole_whole _) opM (Memref.isWhole_whole _) yM (Memref.isWhole_whole _) cc0_scratch4 cc0_scratch5 cc0_scratch6) Q) := by
  rw [cc0_body_eq_skeleton]; unfold cc0_body_skel
  unfold ghost creds toks scratch
  rw [all13]
  iintro ⟨⟨⟨#HR, ⟨Hat0, Hat1, Hat2, Hat3, Hat4, Hat5, Hat6, Hat7, Hat8, Hat9, Hat10, Hat11, Hat12⟩, ⟨HtB1, HtB2, Ht1, Ht2, Ht3, Ht4, Ht5, Ht6, Ht7, Ht8, Ht9, Ht10, Ht11, Ht12⟩, Hv16, Hv17, Hv18, Hv19⟩, ⟨HcB, Hc7, Hc8, Hc9, Hc10, Hc11, Hc12⟩, ⟨%fo, Hout⟩⟩,
    ⟨⟨%ffl, Hfl⟩, ⟨%ffr, Hfr⟩, ⟨%fop, Hop⟩, ⟨%fy, Hy⟩⟩, HO, Hx, Hw, Hsx, Hsw⟩ Hk
  -- the buffers in pieces
  ihave Hx := (Entails.of_eq (pt_xM c fullShare (xstg m c)).symm) $$ Hx
  ihave Hx := ((x_pieces c (xstg m c)).1) $$ Hx
  icases Hx with ⟨⟨Hxtl, Hxtrl, Hxtrr⟩, Hxbl, Hxbrl, Hxbrr⟩
  ihave Hfl := (Entails.of_eq (pt_flM c fullShare ffl).symm) $$ Hfl
  ihave Hfl := (halves_of_whole flM c ffl) $$ Hfl
  icases Hfl with ⟨Hfl1, Hfl2⟩
  ihave Hfr := (Entails.of_eq (pt_frM c fullShare ffr).symm) $$ Hfr
  ihave Hfr := (halves_of_whole frM c ffr) $$ Hfr
  icases Hfr with ⟨Hfr1, Hfr2⟩
  ihave Hop := (Entails.of_eq (pt_opM c fullShare fop).symm) $$ Hop
  ihave Hop := (halves_of_whole opM c fop) $$ Hop
  icases Hop with ⟨Hop1, Hop2⟩
  ihave HpP := (show iprop((∃ f, pt (tM flM) c fullShare f) ∗ (∃ f, pt (bM flM) c fullShare f) ∗ (∃ f, pt (tM opM) c fullShare f)) ⊢ (pay m (prv c) 0 false : sProp 𝕄) by
    unfold pay; rw [nxt_prv]; exact BI.Entails.refl _) $$ [Hfl1 Hfl2 Hop1]
  · isplitl [Hfl1]; · iexact Hfl1
    isplitl [Hfl2]; · iexact Hfl2
    iexact Hop1
  ihave HpN := (show iprop((∃ f, pt (bM frM) c fullShare f) ∗ (∃ f, pt (tM frM) c fullShare f) ∗ (∃ f, pt (bM opM) c fullShare f)) ⊢ (pay m (nxt c) 0 true : sProp 𝕄) by
    unfold pay; rw [prv_nxt]; exact BI.Entails.refl _) $$ [Hfr1 Hfr2 Hop2]
  · isplitl [Hfr2]; · iexact Hfr2
    isplitl [Hfr1]; · iexact Hfr1
    iexact Hop2
  ihave Hout := (Entails.of_eq (out_split c fo)) $$ Hout
  icases Hout with ⟨Ho1, Ho2, Ho3, Ho4, Ho5, Ho6, Ho7, Ho8⟩
  ihave Hy := (y_split c fy) $$ Hy
  icases Hy with ⟨Hy0, Hy1, Hy2, Hy3⟩
  -- the parts
  iapply (bwp_bind c _ _ _)
  iapply (part1 c)
  iintro %v2 %v13 %v24 %v35
  dsimp only
  iapply (bwp_bind c _ _ _)
  iapply (part2 m K c _ _) $$ [HO HtB1 HtB2 HpP HpN HcB Hat0 Hsx Hsw Hxtl Hxbl Ht1 Ht7 Ht2 Ht8]
  · isplitr; · iexact HR
    isplitl [HO]; · iexact HO
    isplitl [HtB1]; · iexact HtB1
    isplitl [HtB2]; · iexact HtB2
    isplitl [HpP]; · iexact HpP
    isplitl [HpN]; · iexact HpN
    isplitl [HcB]; · iexact HcB
    isplitl [Hat0]; · iexact Hat0
    isplitl [Hsx]; · iexact Hsx
    isplitl [Hsw]; · iexact Hsw
    isplitl [Hxtl]; · iexact Hxtl
    isplitl [Hxbl]; · iexact Hxbl
    isplitl [Ht1]; · iexact Ht1
    isplitl [Ht7]; · iexact Ht7
    isplitl [Ht2]; · iexact Ht2
    iexact Ht8
  iintro %v60 %a ⟨HO, Hat0, Hsx, Hsw, Hc1, Hc2, HopN, HpB⟩
  dsimp only
  iapply (bwp_bind c _ _ _)
  iapply (part3 m K c _ _ _ _) $$ [HO Hxbrl Hxtrl Hxtrr HpB Ht3 Ht9 Ht4 Ht10 Hw Hy0]
  · isplitr; · iexact HR
    isplitl [HO]; · iexact HO
    isplitl [Hxbrl]; · iexact Hxbrl
    isplitl [Hxtrl]; · iexact Hxtrl
    isplitl [Hxtrr]; · iexact Hxtrr
    isplitl [HpB]; · iexact HpB
    isplitl [Ht3]; · iexact Ht3
    isplitl [Ht9]; · iexact Ht9
    isplitl [Ht4]; · iexact Ht4
    isplitl [Ht10]; · iexact Ht10
    isplitl [Hw]; · iexact Hw
    iexact Hy0
  iintro ⟨HO, Hc3, Hc4, HopP, Hxtrr, Hw, Hy0⟩
  iapply (bwp_bind c _ _ _)
  iapply (part4 m K c _ _) $$ [HO Hy0 Ho1 Hv16 Hxbrr Hw Hy1 Ho2 Hv17 Hc7 Hat7]
  · isplitr; · iexact HR
    isplitl [HO]; · iexact HO
    isplitl [Hy0]; · iexact Hy0
    isplitl [Ho1]; · iexists _; iexact Ho1
    isplitl [Hv16]; · iexact Hv16
    isplitl [Hxbrr]; · iexact Hxbrr
    isplitl [Hw]; · iexact Hw
    isplitl [Hy1]; · iexact Hy1
    isplitl [Ho2]; · iexists _; iexact Ho2
    isplitl [Hv17]; · iexact Hv17
    isplitl [Hc7]; · iexact Hc7
    iexact Hat7
  iintro ⟨Hf16, Hxbrr, Hw, Hf17, HO, Hat7, Hflt⟩
  iapply (bwp_bind c _ _ _)
  iapply (part5 m K c _ _) $$ [HO Hflt HopN Ht5 Ht11 Hc9 Hat9 HopP Ht6 Ht12 Hw]
  · isplitr; · iexact HR
    isplitl [HO]; · iexact HO
    isplitl [Hflt]; · iexact Hflt
    isplitl [HopN]; · iexact HopN
    isplitl [Ht5]; · iexact Ht5
    isplitl [Ht11]; · iexact Ht11
    isplitl [Hc9]; · iexact Hc9
    isplitl [Hat9]; · iexact Hat9
    isplitl [HopP]; · iexact HopP
    isplitl [Ht6]; · iexact Ht6
    isplitl [Ht12]; · iexact Ht12
    iexact Hw
  iintro %v146 ⟨HO, Hc5, Hc6, Hfltr, Hfrbr, Hw, Hat9⟩
  dsimp only
  iapply (bwp_bind c _ _ _)
  iapply (part6 m c _ _) $$ [Hy2 Ho3 Hv18 Hfrbr Hw Hy3]
  · isplitl [Hy2]; · iexact Hy2
    isplitl [Ho3]; · iexists _; iexact Ho3
    isplitl [Hv18]; · iexact Hv18
    isplitl [Hfrbr]; · iexact Hfrbr
    isplitl [Hw]; · iexact Hw
    iexact Hy3
  iintro ⟨Hf18, Hfrbr, Hw, Hy3⟩
  iapply (bwp_bind c _ _ _)
  iapply (part7 m K c _ _) $$ [HO Hy3 Ho4 Hv19 Hc8 Hat8 Hc10 Hat10 Hf16 Hw]
  · isplitr; · iexact HR
    isplitl [HO]; · iexact HO
    isplitl [Hy3]; · iexact Hy3
    isplitl [Ho4]; · iexists _; iexact Ho4
    isplitl [Hv19]; · iexact Hv19
    isplitl [Hc8]; · iexact Hc8
    isplitl [Hat8]; · iexact Hat8
    isplitl [Hc10]; · iexact Hc10
    isplitl [Hat10]; · iexact Hat10
    isplitl [Hf16]; · iexact Hf16
    iexact Hw
  iintro %v198 ⟨Hf19, HO, Hat8, Hat10, Hflb, Hfrt, Ho1, Hy0, Hv16, Hw⟩
  dsimp only
  iapply (bwp_bind c _ _ _)
  iapply (part8 m c _ _) $$ [HO Hy0 Ho5 Hv16 Hfrt Hf17 Hw]
  · isplitl [HO]; · iexact HO
    isplitl [Hy0]; · iexact Hy0
    isplitl [Ho5]; · iexists _; iexact Ho5
    isplitl [Hv16]; · iexact Hv16
    isplitl [Hfrt]; · iexact Hfrt
    isplitl [Hf17]; · iexact Hf17
    iexact Hw
  iintro ⟨HO, Hf16, Hfrt, Ho2, Hv17, Hw, Hy1⟩
  iapply (bwp_bind c _ _ _)
  iapply (part9 m K c _ _ _) $$ [HO Hy1 Ho6 Hv17 Hc11 Hat11 Hc12 Hat12 Hf18 Hw]
  · isplitr; · iexact HR
    isplitl [HO]; · iexact HO
    isplitl [Hy1]; · iexact Hy1
    isplitl [Ho6]; · iexists _; iexact Ho6
    isplitl [Hv17]; · iexact Hv17
    isplitl [Hc11]; · iexact Hc11
    isplitl [Hat11]; · iexact Hat11
    isplitl [Hc12]; · iexact Hc12
    isplitl [Hat12]; · iexact Hat12
    isplitl [Hf18]; · iexact Hf18
    iexact Hw
  iintro %v258 ⟨HO, Hf17, Hat11, Hat12, Hopt, Hopb, Ho3, Hy2, Hv18, Hw⟩
  dsimp only
  iapply (bwp_bind c _ _ _)
  iapply (part10 m c _ _) $$ [HO Hy2 Ho7 Hv18 Hopb Hf19 Hw]
  · isplitl [HO]; · iexact HO
    isplitl [Hy2]; · iexact Hy2
    isplitl [Ho7]; · iexists _; iexact Ho7
    isplitl [Hv18]; · iexact Hv18
    isplitl [Hopb]; · iexact Hopb
    isplitl [Hf19]; · iexact Hf19
    iexact Hw
  iintro %v283 ⟨HO, Hf18, Hopb, Ho4, Hy3, Hv19, Hw⟩
  dsimp only
  iapply (bwp_bind c _ _ _)
  iapply (part11 m K c _) $$ [HO Hy3 Ho8 Hv19 Hc1 Hat1 Hc2 Hat2 Hc3 Hat3]
  · isplitr; · iexact HR
    isplitl [HO]; · iexact HO
    isplitl [Hy3]; · iexact Hy3
    isplitl [Ho8]; · iexists _; iexact Ho8
    isplitl [Hv19]; · iexact Hv19
    isplitl [Hc1]; · iexact Hc1
    isplitl [Hat1]; · iexact Hat1
    isplitl [Hc2]; · iexact Hc2
    isplitl [Hat2]; · iexact Hat2
    isplitl [Hc3]; · iexact Hc3
    iexact Hat3
  iintro ⟨HO, Hf19, Hat1, Hat2, Hat3, Hxtl, Hxbl, Hxbrl⟩
  iapply (bwp_bind c _ _ _)
  iapply (part12 m K c) $$ [HO Hc4 Hat4 Hc5 Hat5 Hc6 Hat6 Hf16 Hf17 Hf18]
  · isplitr; · iexact HR
    isplitl [HO]; · iexact HO
    isplitl [Hc4]; · iexact Hc4
    isplitl [Hat4]; · iexact Hat4
    isplitl [Hc5]; · iexact Hc5
    isplitl [Hat5]; · iexact Hat5
    isplitl [Hc6]; · iexact Hc6
    isplitl [Hat6]; · iexact Hat6
    isplitl [Hf16]; · iexact Hf16
    isplitl [Hf17]; · iexact Hf17
    iexact Hf18
  iintro ⟨HO, Hat4, Hat5, Hat6, Hxtrl, Hfltl, Hfrbl, Ho5, Hy0, Hv16, Ho6, Hy1, Hv17, Ho7, Hy2, Hv18⟩
  -- the last wait
  simp only [Prog.lift, Prog.bind_op, Prog.bind_ret, Prog.pure_eq_ret]
  rw [cpy3]
  iapply (wp_ywait c _) $$ [Hf19 HO]
  · isplitl [Hf19]; · iexact Hf19
    iexact HO
  iintro ⟨⟨Ho8, Hy3⟩, Hv19, HO⟩
  -- everything back together
  imod (closes m K c) $$ [Hat0 Hat1 Hat2 Hat3 Hat4 Hat5 Hat6 Hat7 Hat8 Hat9 Hat10 Hat11 Hat12] with Hz
  · isplitr; · iexact HR
    rw [all13]
    · isplitl [Hat0]; · iexact Hat0
      isplitl [Hat1]; · iexact Hat1
      isplitl [Hat2]; · iexact Hat2
      isplitl [Hat3]; · iexact Hat3
      isplitl [Hat4]; · iexact Hat4
      isplitl [Hat5]; · iexact Hat5
      isplitl [Hat6]; · iexact Hat6
      isplitl [Hat7]; · iexact Hat7
      isplitl [Hat8]; · iexact Hat8
      isplitl [Hat9]; · iexact Hat9
      isplitl [Hat10]; · iexact Hat10
      isplitl [Hat11]; · iexact Hat11
      iexact Hat12
  iapply (bwp_ret c _ Q)
  iapply Hk
  ihave Hx := ((x_pieces c (xstg m c)).2) $$ [Hxtl Hxtrl Hxtrr Hxbl Hxbrl Hxbrr]
  · isplitl [Hxtl Hxtrl Hxtrr]
    · isplitl [Hxtl]; · iexact Hxtl
      isplitl [Hxtrl] <;> iassumption
    isplitl [Hxbl]; · iexact Hxbl
    isplitl [Hxbrl] <;> iassumption
  ihave Hx := (Entails.of_eq (pt_xM c fullShare (xstg m c))) $$ Hx
  ihave Hflt := ((pt_left (tM flM) c (xstg m (prv c))).2) $$ [Hfltl Hfltr]
  · isplitl [Hfltl] <;> iassumption
  ihave Hfl := (whole_of_halves flM c (xstg m (prv c))) $$ [Hflt Hflb]
  · isplitl [Hflt] <;> iassumption
  ihave Hfl := (Entails.of_eq (pt_flM c fullShare (xstg m (prv c)))) $$ Hfl
  ihave Hfrb := ((pt_left (bM frM) c (xstg m (nxt c))).2) $$ [Hfrbl Hfrbr]
  · isplitl [Hfrbl] <;> iassumption
  ihave Hfr := (whole_of_halves frM c (xstg m (nxt c))) $$ [Hfrt Hfrb]
  · isplitl [Hfrt] <;> iassumption
  ihave Hfr := (Entails.of_eq (pt_frM c fullShare (xstg m (nxt c)))) $$ Hfr
  ihave Hop := (whole_of_halves opM c (xstg m (prv (prv c)))) $$ [Hopt Hopb]
  · isplitl [Hopt] <;> iassumption
  ihave Hop := (Entails.of_eq (pt_opM c fullShare (xstg m (prv (prv c))))) $$ Hop
  ihave Hy := (y_join c) $$ [Hy0 Hy1 Hy2 Hy3]
  · isplitl [Hy0]; · iexact Hy0
    isplitl [Hy1]; · iexact Hy1
    isplitl [Hy2]; · iexact Hy2
    iexact Hy3
  ihave Hout := (Entails.of_eq (out_split c (outC m c)).symm) $$ [Ho1 Ho2 Ho3 Ho4 Ho5 Ho6 Ho7 Ho8]
  · isplitl [Ho1]; · iexact Ho1
    isplitl [Ho2]; · iexact Ho2
    isplitl [Ho3]; · iexact Ho3
    isplitl [Ho4]; · iexact Ho4
    isplitl [Ho5]; · iexact Ho5
    isplitl [Ho6]; · iexact Ho6
    isplitl [Ho7]; · iexact Ho7
    iexact Ho8
  unfold Φ₁ scratch
  isplitl [Hfl Hfr Hop Hy Hz Hv16 Hv17 Hv18 Hv19 Hout]
  · isplitl [Hfl Hfr Hop Hy]
    · isplitl [Hfl]; · iexists _; iexact Hfl
      isplitl [Hfr]; · iexists _; iexact Hfr
      isplitl [Hop]; · iexists _; iexact Hop
      iexact Hy
    isplitl [Hz]; · iexact Hz
    isplitl [Hv16 Hv17 Hv18 Hv19]
    · isplitl [Hv16]; · iexact Hv16
      isplitl [Hv17]; · iexact Hv17
      isplitl [Hv18]; · iexact Hv18
      iexact Hv19
    iexact Hout
  isplitl [HO]; · iexact HO
  isplitl [Hx]; · iexact Hx
  isplitl [Hw]; · iexact Hw
  isplitl [Hsx]; · iexact Hsx
  iexact Hsw

/-! ## The body obligation -/

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = stg c b X := by
  unfold owns; simp only [Memref.view_whole, View.read_whole, View.set_whole]

theorem fetch_all (w : Fin 4) : (cfg0.win w).fetch t0_0 = true := by fin_cases w <;> rfl

def bodyPre (c : Dev nD) : sProp 𝕄 :=
  iprop(Φ₀ m c ∗ (dats m 0 c).owesAt () t0_0.castSucc
    ∗ (∃ d, stg c cc0_stg0_0 ((dats m 0 c).before (0 : Fin 4) t0_0 d))
    ∗ (∃ d, stg c cc0_stg1_0 ((dats m 0 c).before (1 : Fin 4) t0_0 d))
    ∗ (∃ d, stg c cc0_stg2_0 ((dats m 0 c).before (2 : Fin 4) t0_0 d))
    ∗ (∃ d, stg c cc0_stg3_0 ((dats m 0 c).before (3 : Fin 4) t0_0 d)))

def bodyPost (c : Dev nD) : sProp 𝕄 :=
  iprop(Φ₁ m c ∗ (dats m 0 c).owesAt () t0_0.succ ∗ stg c cc0_stg0_0 (xstg m c) ∗ stg c cc0_stg1_0 (wstg m c) ∗ stg c cc0_stg2_0 (sxstg m c) ∗ stg c cc0_stg3_0 (swstg m c))

theorem before_all (c : Dev nD) (w : Fin 4) (d) : (dats m 0 c).before w t0_0 d = (dats m 0 c).after w t0_0 := by
  unfold Dat.before; rw [if_pos (fetch_all w)]; fin_cases w <;> rfl

set_option maxRecDepth 4000 in
theorem body_obligation (c : Dev nD) : BodyObligation (dats (F := F) m 0 c) (defs₀ (F := F)) 𝒱₀ () Set.univ := fun t => by
  rw [fin_N0 t]
  rw [bigSep_W0, bigSep_W0]
  simp only [owns_whole_eq]
  show bodyPre m c ⊢ bwp c (cc0_body (F := F) xM (Memref.isWhole_whole _) wM (Memref.isWhole_whole _) sxM (Memref.isWhole_whole _) swM (Memref.isWhole_whole _) outM (Memref.isWhole_whole _) flM (Memref.isWhole_whole _) frM (Memref.isWhole_whole _) opM (Memref.isWhole_whole _) yM (Memref.isWhole_whole _) cc0_scratch4 cc0_scratch5 cc0_scratch6) (fun _ => bodyPost m c)
  unfold bodyPre Φ₀ start
  simp only [before_all]
  iintro ⟨⟨⟨⟨%K, Hg⟩, Hc, Ho⟩, Hs⟩, HO, ⟨%d0, %g0, %hg0, Hx⟩, ⟨%d1, %g1, %hg1, Hw⟩, ⟨%d2, %g2, %hg2, Hsx⟩, ⟨%d3, %g3, %hg3, Hsw⟩⟩
  obtain rfl : g0 = xstg m c := hg0
  obtain rfl : g1 = wstg m c := hg1
  obtain rfl : g2 = sxstg m c := hg2
  obtain rfl : g3 = swstg m c := hg3
  unfold Dat.owesAt Pipeline.owesWithin
  icases HO with ⟨%W, -, HO⟩
  iapply (body_run m K c (fun _ => bodyPost m c)) $$ [Hg Hc Ho Hs HO Hx Hw Hsx Hsw]
  · isplitl [Hg Hc Ho]
    · isplitl [Hg]; · iexact Hg
      isplitl [Hc] <;> iassumption
    isplitl [Hs]; · iexact Hs
    isplitl [HO]; · unfold due; iexists W; iexact HO
    isplitl [Hx]; · iexact Hx
    isplitl [Hw]; · iexact Hw
    isplitl [Hsx] <;> iassumption
  iintro ⟨HΦ, HO, Hx, Hw, Hsx, Hsw⟩
  unfold bodyPost Dat.owesAt Pipeline.owesWithin due
  icases HO with ⟨%W', HO⟩
  isplitl [HΦ]; · iexact HΦ
  isplitl [HO]
  · iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  isplitl [Hsx]
  · iexists _; isplitr; · (ipureintro; rfl)
    iexact Hsx
  iexists _; isplitr; · (ipureintro; rfl)
  iexact Hsw

end Cert.AllGather

end
-- ==== Proof.Run.lean ====
/-
# The launch: from four devices' memories to the run of the whole program
-/
module

public import proofs.«01_k».proof.Proof.Body
public import Idealize.ShloMosaic.Lib.Pipeline.CollectiveSegs
public import Idealize.ShloMosaic.Lib.Quiescent

@[expose] public section

noncomputable section

namespace Cert.AllGather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own sixteen semaphores and the barrier's -/

abbrev osem : Fin 16 → SemLoc sig := fun i => .dma ⟨4 + i.val, by have := i.isLt; show 4 + i.val < 20; omega⟩

theorem ownSemFacts : Pipeline.OwnSemFacts cfg0.spec osem := by decide

/-- All counters a device starts with at zero: those of its thirteen cells and of its four copies into the result. -/
def counters (c : Dev nD) : sProp 𝕄 :=
  iprop((bigSep Finset.univ fun k : Fin 13 => semVal (kcell (c, k)) 0)
    ∗ cv c ⟨16, by decide⟩ ∗ cv c ⟨17, by decide⟩ ∗ cv c ⟨18, by decide⟩ ∗ cv c ⟨19, by decide⟩)

omit [FloatOps F] in
theorem own_list (c : Dev nD) : (Pipeline.ownSems0 (Ix := Unit) (Name := ℕ) (U := UU) (Lvl := ℕ) (Val := Elt F) (τ := τ) osem c : sProp 𝕄)
    = iprop(semVal (kcell (c, 1)) 0 ∗ semVal (kcell (c, 2)) 0 ∗ semVal (kcell (c, 3)) 0 ∗ semVal (kcell (c, 4)) 0 ∗ semVal (kcell (c, 5)) 0
      ∗ semVal (kcell (c, 6)) 0 ∗ semVal (kcell (c, 7)) 0 ∗ semVal (kcell (c, 8)) 0 ∗ semVal (kcell (c, 9)) 0 ∗ semVal (kcell (c, 10)) 0
      ∗ semVal (kcell (c, 11)) 0 ∗ semVal (kcell (c, 12)) 0
      ∗ cv c ⟨16, by decide⟩ ∗ cv c ⟨17, by decide⟩ ∗ cv c ⟨18, by decide⟩ ∗ cv c ⟨19, by decide⟩) := by
  rw [Pipeline.ownSems0_eq_of_list c osem [0, 1, 2, 3, 4, 5, 6, 7, 8, 9, 10, 11, 12, 13, 14, 15] (by decide) (by decide)]; rfl
omit [FloatOps F] in
theorem bar_list (c : Dev nD) : (unscopedSems0 c : sProp 𝕄) = semVal (kcell (c, 0)) 0 := by
  unfold unscopedSems0; rw [bigSep_eq_bigSepL_of_eq [SemLoc.reg barS] (by decide) (by decide)]; rfl

omit [FloatOps F] in
theorem counters_eq (c : Dev nD) :
    iprop(Pipeline.ownSems0 (Ix := Unit) (Name := ℕ) (U := UU) (Lvl := ℕ) (Val := Elt F) (τ := τ) osem c ∗ unscopedSems0 c) ⊣⊢ (counters c : sProp 𝕄) := by
  unfold counters
  rw [own_list, bar_list, all13]
  constructor
  · iintro ⟨⟨H1, H2, H3, H4, H5, H6, H7, H8, H9, H10, H11, H12, Hc⟩, H0⟩
    isplitr [Hc]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11] <;> iassumption
    iexact Hc
  · iintro ⟨⟨H0, H1, H2, H3, H4, H5, H6, H7, H8, H9, H10, H11, H12⟩, Hc⟩
    isplitr [H0]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12] <;> iassumption
    iexact H0

/-! ## The ring's ghost state minted -/

theorem csem_injective : Function.Injective csem := by decide

theorem kcell_injective : Function.Injective (kcell : Dev nD × Fin 13 → GSem nD τ sig) := by
  rintro ⟨c, k⟩ ⟨c', k'⟩ h
  have h1 : c = c' := congrArg (fun g : GSem nD τ sig => g.1.1) h
  have h2 : k = k' := csem_injective (congrArg Prod.snd h)
  rw [h1, h2]
theorem kcell_inj {c c' : Dev nD} {k k' : Fin 13} (h : (kcell (c, k) : GSem nD τ sig) = kcell (c', k')) : c = c' ∧ k = k' :=
  Prod.mk.inj (kcell_injective h)
def ringCells : Finset (GSem nD τ sig) := Finset.univ.map ⟨kcell, kcell_injective⟩

/-- The tokens of device `c`'s own cells: a `false` one per cell, and the barrier's `true` one. -/
abbrev tokOf (cj : Dev nD × Fin 14) : GSem nD τ sig × ℕ × Bool :=
  if h : cj.2.val < 13 then (kcell (cj.1, ⟨cj.2.val, h⟩), 0, false) else (kcell (cj.1, 0), 0, true)
theorem tokOf_injective : Function.Injective (tokOf : Dev nD × Fin 14 → GSem nD τ sig × ℕ × Bool) := by
  rintro ⟨c, j⟩ ⟨c', j'⟩ h
  have hj := j.isLt; have hj' := j'.isLt
  unfold tokOf at h
  by_cases h1 : j.val < 13 <;> by_cases h2 : j'.val < 13
  · rw [dif_pos h1, dif_pos h2] at h
    obtain ⟨rfl, hk⟩ := kcell_inj (Prod.mk.inj h).1
    have : j = j' := Fin.ext (Fin.mk.inj hk)
    rw [this]
  · rw [dif_pos h1, dif_neg h2] at h; exact absurd (congrArg (fun x => x.2.2) h) Bool.false_ne_true
  · rw [dif_neg h1, dif_pos h2] at h; exact absurd (congrArg (fun x => x.2.2) h).symm Bool.false_ne_true
  · rw [dif_neg h1, dif_neg h2] at h
    obtain ⟨rfl, _⟩ := kcell_inj (Prod.mk.inj h).1
    have : j = j' := Fin.ext (show j.val = j'.val by omega)
    rw [this]
def ringToks : Finset (GSem nD τ sig × ℕ × Bool) := Finset.univ.map ⟨tokOf, tokOf_injective⟩

def u₀ : UU :=
  (initOf (Pipeline.cells cfgs cellOf_inj) (Pipeline.launchToks cfgs cellOf_inj), (initOf ringCells ringToks, 1))

omit [FloatOps F] in
theorem u₀_split : (ownU u₀ : sProp 𝕄)
    ⊢ iprop(BI.own (EP (initOf (Pipeline.cells cfgs cellOf_inj) (Pipeline.launchToks cfgs cellOf_inj))) ∗ BI.own (ER (initOf ringCells ringToks))) :=
  BI.own_op_elim ((uEmb (nD := nD) (sig := sig) (Ix := Unit) (Val := Elt F) (Name := ℕ) (U := UU) (Lvl := ℕ)).toEmb.op_of_mem
    (Prod.mk_mem_op (URA.mem_op_one _) (URA.mem_one_op (initOf ringCells ringToks, (1 : Counters)))))

/-- The tokens of device `c`'s own cells. -/
def mintedToks (c : Dev nD) : sProp 𝕄 :=
  iprop((dutyTok ER (kcell (c, 0)) 0 false ∗ dutyTok ER (kcell (c, 0)) 0 true)
    ∗ (tok c 1 ∗ tok c 2 ∗ tok c 3 ∗ tok c 4 ∗ tok c 5 ∗ tok c 6) ∗ tok c 7 ∗ tok c 8 ∗ tok c 9 ∗ tok c 10 ∗ tok c 11 ∗ tok c 12)

/-- What device `c` is dealt: its cells' round states, its positions and marks, its cells' tokens. -/
def dealt (c : Dev nD) : sProp 𝕄 :=
  iprop((bigSep Finset.univ fun k : Fin 13 => roundState ER (ringRd m) (kcell (c, k)) 0)
    ∗ (bigSep Finset.univ fun k : Fin 13 => iprop(fresh c k ∗ reached ER (kcell (c, k)) 0)) ∗ mintedToks c)

omit [FloatOps F] in
theorem minted_eq (c : Dev nD) :
    (bigSep Finset.univ fun j : Fin 14 => (dutyTok ER (tokOf (c, j)).1 (tokOf (c, j)).2.1 (tokOf (c, j)).2.2 : sProp 𝕄)) ⊢ mintedToks c := by
  rw [bigSep_univ_eq_bigSepL [(0 : Fin 14), 1, 2, 3, 4, 5, 6, 7, 8, 9, 10, 11, 12, 13] (by decide) (by decide)]
  show iprop(dutyTok ER (kcell (c, 0)) 0 false ∗ tok c 1 ∗ tok c 2 ∗ tok c 3 ∗ tok c 4 ∗ tok c 5 ∗ tok c 6 ∗ tok c 7 ∗ tok c 8 ∗ tok c 9 ∗ tok c 10 ∗ tok c 11 ∗ tok c 12
    ∗ dutyTok ER (kcell (c, 0)) 0 true) ⊢ _
  unfold mintedToks
  iintro ⟨H0, H1, H2, H3, H4, H5, H6, H7, H8, H9, H10, H11, H12, H13⟩
  isplitl [H0 H13]
  · isplitl [H0] <;> iassumption
  isplitl [H1 H2 H3 H4 H5 H6]
  · isplitl [H1]; · iexact H1
    isplitl [H2]; · iexact H2
    isplitl [H3]; · iexact H3
    isplitl [H4]; · iexact H4
    isplitl [H5] <;> iassumption
  isplitl [H7]; · iexact H7
  isplitl [H8]; · iexact H8
  isplitl [H9]; · iexact H9
  isplitl [H10]; · iexact H10
  isplitl [H11] <;> iassumption

omit [FloatOps F] in
theorem mint : BI.own (ER (initOf ringCells ringToks)) ⊢ (|==> bigSep Finset.univ (dealt m) : sProp 𝕄) := by
  have hX (Φ : GSem nD τ sig → sProp 𝕄) : bigSep ringCells Φ = bigSep Finset.univ fun c : Dev nD => bigSep Finset.univ fun k : Fin 13 => Φ (kcell (c, k)) := by
    unfold ringCells; rw [bigSep_map, bigSep_univ_prod]; rfl
  have hT : bigSep ringToks (fun x => (dutyTok ER x.1 x.2.1 x.2.2 : sProp 𝕄)) ⊢ bigSep Finset.univ fun c : Dev nD => mintedToks c := by
    unfold ringToks; rw [bigSep_map, bigSep_univ_prod]
    exact bigSep_mono fun c _ => minted_eq c
  iintro HX
  imod (Rounds.fund ER (ringRd m) ringCells ringToks) $$ HX with ⟨Hst, Hr, Hat, Htok⟩
  imodintro
  ihave Hst := (Entails.of_eq (hX fun g => roundState ER (ringRd m) g 0)) $$ Hst
  ihave Hat := (Entails.of_eq (hX fun g => atPos ER g 0 ∅ 0)) $$ Hat
  ihave Hr := (Entails.of_eq (hX fun g => reached ER g 0)) $$ Hr
  ihave Htok := hT $$ Htok
  unfold dealt; simp only [bigSep_sep']
  isplitl [Hst]; · iexact Hst
  isplitl [Hat Hr]
  · isplitl [Hat] <;> iassumption
  iexact Htok

/-! ## The cells' invariants, for all devices at once -/

/-- What the cells' invariants and marks are kept as, before the level facts are joined to them. -/
def cellsKnown (K : Dev nD × Fin 13 → ℕ) : sProp 𝕄 :=
  iprop((bigSep Finset.univ fun g : Dev nD × Fin 13 => cellInv ER (ringRd m) (K g) (kcell g)) ∗ bigSep Finset.univ fun g : Dev nD × Fin 13 => reached ER (kcell g) 0)
instance cellsKnown_persistent (K : Dev nD × Fin 13 → ℕ) : BI.Persistent (cellsKnown m K) := by unfold cellsKnown; infer_instance

abbrev copies (c : Dev nD) : sProp 𝕄 := iprop(cv c ⟨16, by decide⟩ ∗ cv c ⟨17, by decide⟩ ∗ cv c ⟨18, by decide⟩ ∗ cv c ⟨19, by decide⟩)

/-- What is device `c`'s alone: its positions, the tokens it pays with, its copies' counters. -/
def mine (c : Dev nD) : sProp 𝕄 := iprop((bigSep Finset.univ fun k : Fin 13 => fresh c k) ∗ toks c ∗ copies c)

/-- What device `c` holds after the cells are set up. -/
def kit (c : Dev nD) : sProp 𝕄 := iprop(∃ K, cellsKnown m K ∗ mine c)

omit [FloatOps F] in
theorem set_up (c : Dev nD) :
    iprop(Pipeline.ownSems0 (Ix := Unit) (Name := ℕ) (U := UU) (Lvl := ℕ) (Val := Elt F) (τ := τ) osem c ∗ unscopedSems0 c ∗ dealt m c)
      ⊢ |={Set.univ}=> iprop((bigSep Finset.univ fun k => iprop(∃ κ : ℕ, cellInv ER (ringRd m) κ (kcell (c, k))))
          ∗ (bigSep Finset.univ fun k => iprop(fresh c k ∗ reached ER (kcell (c, k)) 0)) ∗ mintedToks c ∗ copies c) := by
  unfold dealt
  iintro ⟨Hos, Hus, Hst, Hat, Htok⟩
  ihave Hv := ((counters_eq (F := F) c).1) $$ [Hos Hus]
  · isplitl [Hos] <;> iassumption
  unfold counters
  icases Hv with ⟨Hv, Hc⟩
  imod (show iprop((bigSep Finset.univ fun k : Fin 13 => semVal (kcell (c, k)) 0) ∗ bigSep Finset.univ fun k : Fin 13 => roundState ER (ringRd m) (kcell (c, k)) 0)
      ⊢ (|={Set.univ}=> bigSep Finset.univ fun k => iprop(∃ κ : ℕ, cellInv ER (ringRd m) κ (kcell (c, k))) : sProp 𝕄) from by
        rw [← bigSep_sep']
        exact (bigSep_mono fun k _ => (Rounds.body_intro ER (ringRd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

omit [FloatOps F] in
/-- The tokens go to the devices that pay with them: a barrier's `false` token, and those of the cells 7, 8 and 11, to the
    device that has the cell's as its neighbour; the others the other way or nowhere. -/
theorem toks_dealt : (bigSep Finset.univ fun c : Dev nD => (mintedToks c : sProp 𝕄)) ⊢ bigSep Finset.univ fun c : Dev nD => toks c := by
  unfold mintedToks toks
  simp only [bigSep_sep']
  rw [bigSep_univ_equiv ring.symm (fun c : Dev nD => (dutyTok ER (kcell (c, 0)) 0 false : sProp 𝕄)),
    bigSep_univ_equiv ring (fun c : Dev nD => (dutyTok ER (kcell (c, 0)) 0 true : sProp 𝕄)),
    bigSep_univ_equiv ring (fun c : Dev nD => (tok c 7 : sProp 𝕄)),
    bigSep_univ_equiv ring (fun c : Dev nD => (tok c 8 : sProp 𝕄)),
    bigSep_univ_equiv ring.symm (fun c : Dev nD => (tok c 9 : sProp 𝕄)),
    bigSep_univ_equiv ring.symm (fun c : Dev nD => (tok c 10 : sProp 𝕄)),
    bigSep_univ_equiv ring (fun c : Dev nD => (tok c 11 : sProp 𝕄)),
    bigSep_univ_equiv ring.symm (fun c : Dev nD => (tok c 12 : sProp 𝕄))]
  iintro ⟨⟨H0, H13⟩, ⟨H1, H2, H3, H4, H5, H6⟩, H7, H8, H9, H10, H11, H12⟩
  isplitl [H0]; · iexact H0
  isplitl [H13]; · iexact H13
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

omit [FloatOps F] in
theorem shared_out :
    (bigSep Finset.univ fun c : Dev nD => iprop((bigSep Finset.univ fun k => iprop(∃ κ : ℕ, cellInv ER (ringRd m) κ (kcell (c, k))))
          ∗ (bigSep Finset.univ fun k => iprop(fresh c k ∗ reached ER (kcell (c, k)) 0)) ∗ mintedToks c ∗ copies c) : sProp 𝕄)
      ⊢ bigSep Finset.univ (kit m) := by
  rw [bigSep_sep', bigSep_sep', bigSep_sep', ← bigSep_univ_prod (fun g : Dev nD × Fin 13 => iprop(∃ κ : ℕ, cellInv ER (ringRd m) κ (kcell g))),
    bigSep_congr (s := Finset.univ) (fun (c : Dev nD) _ => bigSep_sep' Finset.univ (fun k : Fin 13 => (fresh c k : sProp 𝕄)) (fun k => reached ER (kcell (c, k)) 0)),
    bigSep_sep', ← bigSep_univ_prod (fun g : Dev nD × Fin 13 => (reached ER (kcell g) 0 : sProp 𝕄))]
  iintro ⟨HI, ⟨Hat, #HR⟩, Htok, Hc⟩
  ihave HK := (BI.bigSep_exists_pi Finset.univ (fun (g : Dev nD × Fin 13) (κ : ℕ) => (cellInv ER (ringRd m) κ (kcell g) : sProp 𝕄))) $$ HI
  icases HK with ⟨%K, #HI⟩
  ihave Htk := (toks_dealt (F := F)) $$ Htok
  iapply (bigSep_with_persistent (R := cellsKnown m K) (Φ := mine) fun c _ => by
    unfold kit; iintro ⟨#H, Hm⟩; iexists K; isplitr; · iexact H
    iexact Hm)
  isplitr
  · unfold cellsKnown; isplitl; · iexact HI
    iexact HR
  · unfold mine; simp only [bigSep_sep']
    isplitl [Hat]; · iexact Hat
    isplitl [Htk]; · iexact Htk
    iexact Hc

omit [FloatOps F] in
theorem set_up_all : (bigSep Finset.univ fun c => iprop(Pipeline.ownSems0 (Ix := Unit) (Name := ℕ) (U := UU) (Lvl := ℕ) (Val := Elt F) (τ := τ) osem c ∗ unscopedSems0 c ∗ dealt m c) : sProp 𝕄)
    ⊢ |={Set.univ}=> bigSep Finset.univ (kit m) :=
  ((bigSep_mono fun c _ => set_up m c).trans (bigSep_fupd _ _)).trans (BI.fupd_mono (shared_out m))

/-! ## The credit the devices owe one another -/

omit [FloatOps F] in
theorem owed_at (d c : Dev nD) (k : Fin 13) (n : ℕ) :
    Owe d n (kcell (c, k)) () = ∑ j ∈ Finset.range n, if dueDev d j = c then (if dueK j = k then dueAmt j else 0) else 0 := by
  induction n with
  | zero => rfl
  | succ n ih =>
    rw [Finset.sum_range_succ, ← ih, Owe, Pi.add_apply, Finsupp.add_apply, tallyAt_apply]
    congr 1
    by_cases h1 : dueDev d n = c
    · by_cases h2 : dueK n = k
      · rw [if_pos ⟨by rw [h1, h2], rfl⟩, if_pos h1, if_pos h2]
      · rw [if_neg (fun h => h2 (kcell_inj h.1).2.symm), if_pos h1, if_neg h2]
    · rw [if_neg (fun h => h1 (kcell_inj h.1).1.symm), if_neg h1]

theorem one_payer : ∀ (c : Dev nD) (j : ℕ), j < 8 → ∃ e : Dev nD, ∀ d, dueDev d j = c ↔ d = e := by
  have h : ∀ (c : Dev nD) (j : Fin 8), ∃ e : Dev nD, ∀ d, dueDev d j.val = c ↔ d = e := by decide
  exact fun c j hj => h c ⟨j, hj⟩

omit [FloatOps F] in
theorem owed_total (c : Dev nD) (k : Fin 13) :
    ∑ d : Dev nD, Owe d 8 (kcell (c, k)) () = ∑ j ∈ Finset.range 8, if dueK j = k then dueAmt j else 0 := by
  rw [Finset.sum_congr rfl fun d _ => owed_at d c k 8, Finset.sum_comm]
  refine Finset.sum_congr rfl fun j hj => ?_
  obtain ⟨e, he⟩ := one_payer c j (Finset.mem_range.mp hj)
  rw [Finset.sum_congr rfl fun d _ => if_congr (he d) rfl rfl, Finset.sum_ite_eq' Finset.univ e, if_pos (Finset.mem_univ _)]

omit [FloatOps F] in
theorem credit_at (c : Dev nD) (k : Fin 13) (n : ℕ) (h : (∑ j ∈ Finset.range 8, if dueK j = k then dueAmt j else 0) = n) :
    tallyOn (kcell (c, k)) (launchCredit (Pipeline.owing fun d => Owe d 8) 0 (kcell (c, k))) = (tallyAt (kcell (c, k)) () n : CellTallies nD τ sig Unit) := by
  unfold tallyAt; refine congrArg _ (Finsupp.ext fun u => ?_); cases u
  rw [Pipeline.launchCredit_owing, Finsupp.single_eq_same, owed_total, h]

omit [FloatOps F] in
theorem launch_creds (c : Dev nD) : (Pipeline.launchCred (fun d => Owe d 8) c : sProp 𝕄) ⊢ creds c := by
  have hN : ∀ k : Fin 13, k.val ≥ 7 → (∑ j ∈ Finset.range 8, if dueK j = k then dueAmt j else 0) = N := by
    intro k hk
    fin_cases k <;> first | exact absurd hk (by decide) | simp [Finset.sum_range_succ, dueK, dueAmt]
  unfold Pipeline.launchCred creds
  refine (bigSep_subset (Finset.subset_univ (Finset.univ.map ⟨csem, csem_injective⟩))).trans ?_
  rw [bigSep_map]
  show (bigSep Finset.univ fun k : Fin 13 => (cred (tallyOn (kcell (c, k)) (launchCredit (Pipeline.owing fun d => Owe d 8) 0 (kcell (c, k)))) : sProp 𝕄)) ⊢ _
  rw [all13, credit_at c 0 2 (by simp [Finset.sum_range_succ, dueK, dueAmt]), credit_at c 7 N (hN 7 (by decide)), credit_at c 8 N (hN 8 (by decide)),
    credit_at c 9 N (hN 9 (by decide)), credit_at c 10 N (hN 10 (by decide)), credit_at c 11 N (hN 11 (by decide)), credit_at c 12 N (hN 12 (by decide))]
  iintro ⟨H0, -, -, -, -, -, -, H7, H8, H9, H10, H11, H12⟩
  isplitl [H0]; · iexact H0
  isplitl [H7]; · iexact H7
  isplitl [H8]; · iexact H8
  isplitl [H9]; · iexact H9
  isplitl [H10]; · iexact H10
  isplitl [H11] <;> iassumption

/-! ## The launch theorem's side conditions -/

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred (fun d => Owe d 8) c ∗ prngReg c (ρ c) ∗ kit m c)
      ⊢ |={Set.univ}=> iprop(start m c ∗ emp) := by
  rw [Pipeline.unscopedRestP_none, unscopedRest0_eq]
  unfold kit cellsKnown mine
  iintro ⟨Ho, Hlev, Hcr, -, ⟨%K, ⟨HI, HR⟩, Hat, Ht, Hc⟩⟩
  ihave Hcr := (launch_creds (F := F) c) $$ Hcr
  imodintro
  unfold start ghost recs
  isplitl
  · isplitl [Hlev HI HR Hat Ht Hc]
    · iexists K
      isplitl [HI HR Hlev]
      · isplitl [HI]; · iexact HI
        isplitl [HR] <;> iassumption
      isplitl [Hat]; · iexact Hat
      isplitl [Ht]; · iexact Ht
      iexact Hc
    isplitl [Hcr]; · iexact Hcr
    iexists _; iexact Ho
  · iempintro

theorem enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs] <;> iassumption

/-- What is read off when device `c` has returned. -/
def left (c : Dev nD) : sProp 𝕄 := iprop(unscopedSems0 c ∗ own1 c main_v1 (outC m c))

theorem leave (c : Dev nD) :
    (dats m 0 c).Φ (Fin.last cfg0.N) ⊢ iprop(left m c ∗ Pipeline.ownSems0 osem c ∗ Pipeline.scopedRest cfg0.spec c) := by
  rw [show (dats m 0 c).Φ (Fin.last cfg0.N) = Φ₁ m c from rfl, scopedRest0_eq]
  unfold Φ₁ scratch left
  iintro ⟨Hr, Hz, Hc, Ho⟩
  ihave Hs := ((counters_eq (F := F) c).2) $$ [Hz Hc]
  · unfold counters; isplitl [Hz] <;> iassumption
  icases Hs with ⟨Hs, Hu⟩
  isplitl [Hu Ho]
  · isplitl [Hu] <;> iassumption
  isplitl [Hs] <;> iassumption

theorem waits (c : Dev nD) : (levAts L lv : sProp 𝕄) ⊢ Pipeline.cellsWaits cfgs (dats m) () 0 c :=
  Pipeline.cellsWaits_intro cfgs (dats m) () 0 c fun w s t => by
    have hlow : ∀ j < 8, lvK (kOf (SemLoc.dma ((cfg0.win w).sem s))) < lvK (dueK j).val := by
      fin_cases w <;> fin_cases s <;> decide
    rcases t with ⟨_ | _, ht⟩
    · exact mayWait c _ 8 hlow
    · exact mayWait c _ 0 (fun j hj => absurd hj (Nat.not_lt_zero j))

/-! ## The run -/

def QC : PUnit × MemSt nD τ sig (Elt F) → Prop := fun r =>
  ∀ c : Dev nD, r.2.mem ((c : Thread nD τ).loc main_v1) = outC m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)

theorem read_off (c : Dev nD) (s' : Phys nD τ sig (Elt F)) :
    iprop(left m c ∗ emp ∗ SI s') ⊢ (|={Set.univ}=> iprop(⌜(∀ sm : SemLoc sig, sm.isScoped .tc = false → s'.mem.sem ((c.tc : Thread nD τ), sm) = 0)
      ∧ s'.mem.mem ((c : Thread nD τ).loc main_v1) = outC m c⌝ ∗ SI s') : sProp 𝕄) := by
  unfold left
  iintro ⟨⟨Hu, Ho⟩, -, HSI⟩
  ihave %h := (SI_pointsTo_agree (st := s')) $$ [HSI Ho]
  · isplitl [HSI] <;> iassumption
  imod (Pipeline.unscopedSems0_read (X := unscopedSems0 c) (c := c) fupd_intro s') $$ [Hu HSI] with ⟨%hs, HSI⟩
  · isplitl [Hu] <;> iassumption
  imodintro
  isplitr
  · ipureintro; exact ⟨hs, funext fun i => h i (Finset.mem_univ i)⟩
  iexact HSI

set_option maxRecDepth 8000 in
/-- On four devices, for any float values, from any memory with all counters at zero, the program runs to the end; then
    each device's result is the one computed from all devices' blocks, the arguments are unchanged and all counters are zero. -/
theorem run_main : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := fun d => Owe d 8) (howed₀ := fun _ => rfl) (howedN := fun _ => rfl)
    (L := L) (lv := lv) (hL := L_of_ne) (hwaits := waits m)
    (G := dealt m) (G' := kit m) (u₀ := u₀)
    (hu₀ := by
      iintro Hu
      ihave H := (u₀_split (F := F)) $$ Hu
      icases H with ⟨HP, HX⟩
      imod (mint m) $$ HX with HG
      imodintro
      isplitl [HP] <;> iassumption)
    (hglob := set_up_all m)
    (hA := fun _ _ => rfl) (hpf := fun _ k => k.elim0)
    (X := start m) (Y := left m) (Z := fun _ => iprop(emp))
    (hX := start_intro m ρ) (hin := enter m) (hout := leave m)
    (QY := fun c s => (∀ sm : SemLoc sig, sm.isScoped .tc = false → s.sem ((c.tc : Thread nD τ), sm) = 0)
      ∧ s.mem ((c : Thread nD τ).loc main_v1) = outC m c)
    (hY := read_off m)
    (hQ := fun _ h hs => ⟨fun c => ⟨(h c).2.2.2,
        ((h c).1 (0 : Fin 4)).trans ((dats (F := F) m 0 c).arrAt_in (0 : Fin 4) rfl _),
        ((h c).1 (1 : Fin 4)).trans ((dats (F := F) m 0 c).arrAt_in (1 : Fin 4) rfl _),
        ((h c).1 (2 : Fin 4)).trans ((dats (F := F) m 0 c).arrAt_in (2 : Fin 4) rfl _),
        ((h c).1 (3 : Fin 4)).trans ((dats (F := F) m 0 c).arrAt_in (3 : Fin 4) rfl _)⟩,
      sem_eq_zero hs fun c => (h c).2.2.1⟩)

end Cert.AllGather

end
-- ==== Proof.Value.lean ====
/-
# The values: each device's result is its block of the reference's

Under the precondition every row of the left operand and every column of the right one has a sum of squares below 2^24, so
the int8 product of a row by a column is the exact integer; the reference's float product is that integer as a real.
-/
module

public import proofs.«01_k».proof.Proof.Run
public import proofs.«01_k».proof.Proof.Gen.ReferenceIdeal.Run
public import proofs.«01_k».proof.Proof.Gen.Pre_small_KernelIdeal
public import proofs.«01_k».proof.Defs
public import Idealize.ShloMosaic.Lib.IntMxu
public import Idealize.ShloMosaic.Lib.Layout
public import Idealize.ShloMosaic.Lib.WordArith
public import Idealize.ShloMosaic.Lib.ValueIdxCore
public import Idealize.ShloMosaic.Lib.StackMember
public import Idealize.ShloMosaic.Lib.IdealHost
public import Idealize.ShloMosaic.Lib.Pointwise.Reduce

@[expose] public section

noncomputable section

namespace Cert.AllGather

open Cert.KernelIdeal Cert.KernelIdeal.Gen
open Idealize.ShloMosaic Idealize.ShloMosaic.TcCoe Idealize.SL.Sem
open Idealize.ShloMosaic.ValueIdx (contrEquiv1 contrEquiv1_symm_val)

/-! ## A 32-bit sum of squares of bytes is the integers' sum -/

/-- The square of a byte as a 32-bit word. -/
abbrev sqw (b : BitVec 8) : BitVec 32 := IntOp.muli (b.signExtend 32) (b.signExtend 32)

theorem byte_sq_le (b : BitVec 8) : b.toInt * b.toInt ≤ 2 ^ 14 := by
  have h := natAbs_toInt_i8_le b
  have h2 : (b.toInt.natAbs : ℤ) ≤ 128 := by exact_mod_cast h
  have h3 : b.toInt * b.toInt = (b.toInt.natAbs : ℤ) * b.toInt.natAbs := by rw [Int.natAbs_mul_self']
  rw [h3]
  nlinarith [Int.natCast_nonneg b.toInt.natAbs]

theorem sqw_toInt (b : BitVec 8) : (sqw b).toInt = b.toInt * b.toInt := by
  have hb : (b.signExtend 32).toInt = b.toInt := BitVec.toInt_signExtend_of_le (by decide)
  have h1 := byte_sq_le b
  have h2 : 0 ≤ b.toInt * b.toInt := mul_self_nonneg _
  show ((b.signExtend 32) * (b.signExtend 32)).toInt = _
  rw [WordArith.toInt_mul_of_bounds _ _ (by rw [hb]; omega) (by rw [hb]; omega), hb]

theorem fold_squares {n : ℕ} (g : Fin n → BitVec 8) (S : Finset (Fin n)) (hn : S.card ≤ 4096) :
    (S.fold IntOp.addi 0#32 fun k => sqw (g k)).toInt = ∑ k ∈ S, (g k).toInt * (g k).toInt
      ∧ ∑ k ∈ S, (g k).toInt * (g k).toInt ≤ 2 ^ 14 * S.card := by
  induction S using Finset.cons_induction with
  | empty => exact ⟨rfl, le_refl _⟩
  | cons a S ha ih =>
    rw [Finset.card_cons] at hn ⊢
    obtain ⟨i1, i2⟩ := ih (by omega)
    have h1 := byte_sq_le (g a)
    have h2 : 0 ≤ (g a).toInt * (g a).toInt := mul_self_nonneg _
    have h3 : 0 ≤ ∑ k ∈ S, (g k).toInt * (g k).toInt := Finset.sum_nonneg fun k _ => mul_self_nonneg _
    rw [Finset.fold_cons, Finset.sum_cons]
    have hs := sqw_toInt (g a)
    constructor
    · show (sqw (g a) + _).toInt = _
      rw [WordArith.toInt_add_of_bounds _ _ (by rw [hs, i1]; omega) (by rw [hs, i1]; omega), hs, i1]
    · push_cast; omega

/-- A compared sum of squares, read: the integers' sum is below the bound. -/
theorem squares_lt (g : Fin 4096 → BitVec 8)
    (h : IntOp.cmpi .slt ((Finset.univ : Finset (Fin 4096)).fold IntOp.addi 0#32 fun k => sqw (g k)) 16777216#32 = 1#1) :
    ∑ k, (g k).toInt * (g k).toInt < 2 ^ 24 := by
  have h1 := IntOp.cmpi_slt.mp h
  rw [(fold_squares g Finset.univ (by simp)).1] at h1
  exact h1

/-- Twice a product of magnitudes is at most the sum of the squares, so the products' magnitudes total less than 2^24. -/
theorem products_lt (a b : Fin 4096 → BitVec 8) (ha : ∑ k, (a k).toInt * (a k).toInt < 2 ^ 24) (hb : ∑ k, (b k).toInt * (b k).toInt < 2 ^ 24) :
    ∑ k, ((a k).toInt * (b k).toInt).natAbs ≤ 2 ^ 24 - 1 := by
  have h1 : ∀ k : Fin 4096, 2 * (((a k).toInt * (b k).toInt).natAbs : ℤ) ≤ (a k).toInt * (a k).toInt + (b k).toInt * (b k).toInt := by
    intro k
    rw [Int.natCast_natAbs]
    rcases abs_cases ((a k).toInt * (b k).toInt) with ⟨h, _⟩ | ⟨h, _⟩ <;> rw [h]
    · nlinarith [mul_self_nonneg ((a k).toInt - (b k).toInt)]
    · nlinarith [mul_self_nonneg ((a k).toInt + (b k).toInt)]
  have h2 := Finset.sum_le_sum fun k (_ : k ∈ Finset.univ) => h1 k
  rw [Finset.sum_add_distrib, ← Finset.mul_sum] at h2
  have h3 : ((∑ k, ((a k).toInt * (b k).toInt).natAbs : ℕ) : ℤ) = ∑ k, (((a k).toInt * (b k).toInt).natAbs : ℤ) := by push_cast; rfl
  omega

/-! ## The precondition, read -/

section Pre
variable (X : S1024x4096.Idx → BitVec 8) (W : S4096x2048.Idx → BitVec 8) (s t : FVec Ideal S1 .f32)

theorem rows_small (h : (Cert.Pre_small_KernelIdeal.fn (F := Ideal) X W s t).1 = fun _ => 1#1) (r : Fin 1024) :
    ∑ k : Fin 4096, (X (ix2 r k)).toInt * (X (ix2 r k)).toInt < 2 ^ 24 := by
  refine squares_lt (fun k => X (ix2 r k)) ?_
  have h1 := congrFun h (fun a => match a with | ⟨0, _⟩ => r)
  simp only [Cert.Pre_small_KernelIdeal.fn, cmpi, broadcastInDim, constantI] at h1
  rw [Host.reduce_eq_fold, Shape.ReducesTo.fold_fiber_r2_a1] at h1
  exact h1

theorem cols_small (h : (Cert.Pre_small_KernelIdeal.fn (F := Ideal) X W s t).2 = fun _ => 1#1) (q : Fin 2048) :
    ∑ k : Fin 4096, (W (ix2 k q)).toInt * (W (ix2 k q)).toInt < 2 ^ 24 := by
  refine squares_lt (fun k => W (ix2 k q)) ?_
  have h1 := congrFun h (fun a => match a with | ⟨0, _⟩ => q)
  simp only [Cert.Pre_small_KernelIdeal.fn, cmpi, broadcastInDim, constantI] at h1
  rw [Host.reduce_eq_fold, Shape.ReducesTo.fold_fiber_r2_a0] at h1
  exact h1
end Pre

/-! ## The kernel's product of a row by a column -/

/-- The integer product of row `r` of `x` by column `q` of `w`. -/
def dotZ {M N : ℕ} (x : (⟨2, ![M, 4096]⟩ : Shape).Idx → BitVec 8) (w : (⟨2, ![4096, N]⟩ : Shape).Idx → BitVec 8) (r : Fin M) (q : Fin N) : ℤ :=
  ∑ k : Fin 4096, (x (ix2 r k)).toInt * (w (ix2 k q)).toInt

section Product
variable (x : S512x4096.Idx → BitVec 8) (w : S4096x2048.Idx → BitVec 8)

abbrev mmD : DotDims S512x4096 S4096x2048 S512x2048 := dot_S512x4096_S4096x2048_S512x2048_1_0_0_1_n_n

/-- A contraction's sum, over the one contracted coordinate. -/
theorem contracted {M : Type*} [AddCommMonoid M] (f : BitVec 8 → BitVec 8 → M) (r : Fin 512) (q : Fin 2048) :
    ∑ k : mmD.contr.Idx, f (x (mmD.lhsIdx (ix2 r q) k)) (w (mmD.rhsIdx (ix2 r q) k)) = ∑ k : Fin 4096, f (x (ix2 r k)) (w (ix2 k q)) := by
  rw [← Equiv.sum_comp (contrEquiv1 mmD 4096 rfl rfl).symm]
  refine Finset.sum_congr rfl fun k _ => ?_
  have hk := contrEquiv1_symm_val mmD 4096 rfl rfl k
  have hl : mmD.lhsIdx (ix2 r q) ((contrEquiv1 mmD 4096 rfl rfl).symm k) = ix2 r k := by
    funext a; apply Fin.ext
    match a with
    | ⟨0, _⟩ => rfl
    | ⟨1, _⟩ => exact hk
  have hr : mmD.rhsIdx (ix2 r q) ((contrEquiv1 mmD 4096 rfl rfl).symm k) = ix2 k q := by
    funext a; apply Fin.ext
    match a with
    | ⟨0, _⟩ => exact hk
    | ⟨1, _⟩ => rfl
  rw [hl, hr]

theorem product_exact (r : Fin 512) (q : Fin 2048) (hx : ∑ k : Fin 4096, (x (ix2 r k)).toInt * (x (ix2 r k)).toInt < 2 ^ 24)
    (hw : ∑ k : Fin 4096, (w (ix2 k q)).toInt * (w (ix2 k q)).toInt < 2 ^ 24) :
    (matmulI8 IntMxuNumerics.v7x mmD x w (constantI S512x2048 32 0#32) (ix2 r q)).toInt = dotZ x w r q := by
  rw [matmulI8_toInt _ _ _ _ _ _ rfl]
  · exact contracted x w (fun a b => a.toInt * b.toInt) r q
  · refine le_of_eq_of_le (contracted x w (fun a b => (a.toInt * b.toInt).natAbs) r q) ?_
    exact products_lt (fun k => x (ix2 r k)) (fun k => w (ix2 k q)) hx hw
end Product

/-! ## The last step: `y` times its logistic -/

theorem exp_nonneg (y : EReal) : 0 ≤ Ideal.exp y := by
  cases y with
  | bot => exact le_refl _
  | top => exact le_top
  | coe r => exact EReal.coe_nonneg.mpr (Real.exp_pos r).le

theorem silu_eq (y : EReal) : y * Ideal.logistic y = Ideal.div y (1 + Ideal.exp (-y)) := by
  have h : (1 : EReal) + Ideal.exp (-y) ≠ 0 := by
    intro e
    have h1 : (1 : EReal) ≤ 1 + Ideal.exp (-y) := le_add_of_nonneg_right (exp_nonneg _)
    rw [e] at h1; exact absurd h1 (by simp)
  unfold Ideal.logistic Ideal.div
  rw [if_neg h, if_neg h, one_mul]

/-- The result at an integer product `n` and a scale `s`. -/
def outAt (n : ℤ) (s : EReal) : EReal := Ideal.div (((n : ℝ) : EReal) * s) (1 + Ideal.exp (-(((n : ℝ) : EReal) * s)))

theorem yv_at (s : EReal) (x : S512x4096.Idx → BitVec 8) (w : S4096x2048.Idx → BitVec 8) (r : Fin 512) (q : Fin 2048)
    (hx : ∑ k : Fin 4096, (x (ix2 r k)).toInt * (x (ix2 r k)).toInt < 2 ^ 24)
    (hw : ∑ k : Fin 4096, (w (ix2 k q)).toInt * (w (ix2 k q)).toInt < 2 ^ 24) :
    yv (F := Ideal) s x w (ix2 r q) = outAt (dotZ x w r q) s := by
  unfold outAt
  rw [← silu_eq, ← product_exact x w r q hx hw]
  rfl

/-! ## The arrays -/

section Arrays
variable (m : (ℓ : Loc nD τ sig) → Buf (Elt Ideal) ℓ)

theorem xstg_eq (c : Dev nD) : xstg m c = m ((c : Thread nD τ).loc main_arg0) :=
  Memref.read_access_unit_zero (Elt Ideal) main_arg0 (funext fun a => by fin_cases a <;> rfl) (fun a => by fin_cases a <;> decide) _
theorem wstg_eq (c : Dev nD) : wstg m c = m ((c : Thread nD τ).loc main_arg1) :=
  Memref.read_access_unit_zero (Elt Ideal) main_arg1 (funext fun a => by fin_cases a <;> rfl) (fun a => by fin_cases a <;> decide) _
theorem sxstg_eq (c : Dev nD) : sxstg m c = m ((c : Thread nD τ).loc main_arg2) :=
  Memref.read_access_unit_zero (Elt Ideal) main_arg2 (funext fun a => by fin_cases a; rfl) (fun a => by fin_cases a; decide) _
theorem swstg_eq (c : Dev nD) : swstg m c = m ((c : Thread nD τ).loc main_arg3) :=
  Memref.read_access_unit_zero (Elt Ideal) main_arg3 (funext fun a => by fin_cases a; rfl) (fun a => by fin_cases a; decide) _

theorem hf_at (X : S1024x4096.Idx → BitVec 8) (h : ℕ) (hh : h < 2) (p : Fin 512) (k : Fin 4096) :
    hf (F := Ideal) X h (ix2 p k) = X (ix2 ⟨512 * h + p.val, by have := p.isLt; omega⟩ k) := by
  unfold hf
  have h01 : h = 0 ∨ h = 1 := by omega
  rcases h01 with rfl | rfl
  · rw [if_pos rfl]
    refine congrArg X (funext fun a => Fin.ext ?_)
    match a with
    | ⟨0, _⟩ => show 0 + 1 * p.val = 512 * 0 + p.val; omega
    | ⟨1, _⟩ => show 0 + 1 * k.val = k.val; omega
  · rw [if_neg (by decide)]
    refine congrArg X (funext fun a => Fin.ext ?_)
    match a with
    | ⟨0, _⟩ => show 512 + 1 * p.val = 512 * 1 + p.val; omega
    | ⟨1, _⟩ => show 0 + 1 * k.val = k.val; omega

/-- The result of device `c` at row `r`: row `r % 1024` of device `r / 1024`'s block by a column of device `c`'s. -/
theorem outC_at (hpre : Cert.Pre_KernelIdeal_small_KernelIdeal m) (c : Dev nD) (r : Fin 4096) (q : Fin 2048) :
    outC m c (ix2 r q)
      = outAt (∑ k : Fin 4096, ((m (((⟨r.val / 1024, by have := r.isLt; show _ < 4; omega⟩ : Dev nD) : Thread nD τ).loc main_arg0) : S1024x4096.Idx → BitVec 8)
            (ix2 ⟨r.val % 1024, by omega⟩ k)).toInt
          * ((m ((c : Thread nD τ).loc main_arg1) : S4096x2048.Idx → BitVec 8) (ix2 k q)).toInt)
        (scl m c) := by
  have hr := r.isLt
  have hd : r.val / 1024 < 4 := by omega
  have hrow : ∀ k : Fin 4096, hf (F := Ideal) (xstg m ⟨r.val / 1024, hd⟩) (r.val % 1024 / 512) (ix2 ⟨r.val % 512, Nat.mod_lt _ (by decide)⟩ k)
      = (m (((⟨r.val / 1024, hd⟩ : Dev nD) : Thread nD τ).loc main_arg0) : S1024x4096.Idx → BitVec 8) (ix2 ⟨r.val % 1024, by omega⟩ k) := by
    intro k
    rw [hf_at _ _ (by omega), xstg_eq]
    congr 2
    exact Fin.ext (show 512 * (r.val % 1024 / 512) + r.val % 512 = r.val % 1024 by omega)
  have hx := rows_small _ _ _ _ (hpre ⟨r.val / 1024, hd⟩).1 ⟨r.val % 1024, by omega⟩
  have hw := cols_small _ _ _ _ (hpre c).2 q
  have hy := yv_at (scl m c) (hf (F := Ideal) (xstg m ⟨r.val / 1024, hd⟩) (r.val % 1024 / 512)) (wstg m c) ⟨r.val % 512, Nat.mod_lt _ (by decide)⟩ q
    (by simp only [hrow]; exact hx) (by rw [wstg_eq]; exact hw)
  have ho : outC m c (ix2 r q) = yv (F := Ideal) (scl m c) (hf (F := Ideal) (xstg m ⟨r.val / 1024, hd⟩) (r.val % 1024 / 512)) (wstg m c)
      (ix2 ⟨r.val % 512, Nat.mod_lt _ (by decide)⟩ q) := by
    unfold outC
    refine congrArg _ (funext fun a => ?_)
    match a with
    | ⟨0, _⟩ => rfl
    | ⟨1, _⟩ => rfl
  rw [ho, hy]
  unfold dotZ
  simp only [hrow]
  rw [wstg_eq]

/-- The scale of device `c`: the product of its two one-element arrays. -/
theorem scl_eq (c : Dev nD) (s t : S1.Idx → EReal) (hs : m ((c : Thread nD τ).loc main_arg2) = s) (ht : m ((c : Thread nD τ).loc main_arg3) = t) :
    scl m c = s i1 * t i1 := by
  unfold scl
  rw [sxstg_eq, swstg_eq, hs, ht]
  rfl

end Arrays

/-! ## The reference's value -/

theorem sum_coe (f : Fin 4096 → ℤ) (S : Finset (Fin 4096)) : ∑ k ∈ S, (((f k : ℝ)) : EReal) = (((∑ k ∈ S, f k : ℤ) : ℝ) : EReal) := by
  induction S using Finset.cons_induction with
  | empty => simp
  | cons a S ha ih => rw [Finset.sum_cons, Finset.sum_cons, ih]; push_cast; rfl

section Reference
open Cert.ReferenceIdeal (S4096x4096 S4096x8192)
variable (A : S4096x4096.Idx → BitVec 8) (B : S4096x8192.Idx → BitVec 8) (s t : S1.Idx → EReal)

/-- The reference's result. -/
def refV : S4096x8192.Idx → EReal := fun i =>
  outAt (dotZ A B ⟨(i 0).val, (i 0).isLt⟩ ⟨(i 1).val, (i 1).isLt⟩) (s i1 * t i1)

theorem refDot_at (i : S4096x8192.Idx) :
    (Host.dotGeneral (F := Ideal) Cert.ReferenceIdeal.dot_S4096x4096_S4096x8192_S4096x8192_1_0_0_1_n_n none
        (sitofp .f32 (extsi 32 A (by decide)) : FVec Ideal S4096x4096 .f32) (sitofp .f32 (extsi 32 B (by decide)) : FVec Ideal S4096x8192 .f32)) i
      = (((dotZ A B ⟨(i 0).val, (i 0).isLt⟩ ⟨(i 1).val, (i 1).isLt⟩ : ℤ) : ℝ) : EReal) := by
  have hi : i = ix2 ⟨(i 0).val, (i 0).isLt⟩ ⟨(i 1).val, (i 1).isLt⟩ := by
    funext a; match a with | ⟨0, _⟩ => rfl | ⟨1, _⟩ => rfl
  have h8 : ∀ b : BitVec 8, (b.signExtend 32).toInt = b.toInt := fun b => BitVec.toInt_signExtend_of_le (by decide)
  refine (congrArg _ hi).trans ((StackMember.dotGeneral_plain_apply none _ _ _ _).trans ?_)
  unfold dotZ
  rw [← sum_coe]
  refine Finset.sum_congr rfl fun k _ => ?_
  show ((((A _).signExtend 32).toInt : ℝ) : EReal) * ((((B _).signExtend 32).toInt : ℝ) : EReal) = _
  rw [h8, h8]
  push_cast
  rfl

/-- An array times the product of the two one-element scales. -/
def scaled (D : FVec Ideal S4096x8192 .f32) : FVec Ideal S4096x8192 .f32 :=
  mulf D (broadcastInDim S4096x8192 ![0, 1] Cert.ReferenceIdeal.Gen.facts.bcast_S1x1_S4096x8192_0_1
    (broadcastInDim Cert.ReferenceIdeal.S1x1 ![1] Cert.ReferenceIdeal.Gen.facts.bcast_S1_S1x1_1 (mulf (F := Ideal) (s : FVec Ideal S1 .f32) t)))

theorem scaled_at (D : FVec Ideal S4096x8192 .f32) (i : S4096x8192.Idx) : scaled s t D i = (D i : EReal) * (s i1 * t i1) :=
  congrArg (fun j : S1.Idx => (D i : EReal) * (s j * t j)) (eq_i1 _)

/-- The reference's product, scaled. -/
def refY : FVec Ideal S4096x8192 .f32 :=
  scaled s t (Host.dotGeneral (F := Ideal) Cert.ReferenceIdeal.dot_S4096x4096_S4096x8192_S4096x8192_1_0_0_1_n_n none
    (sitofp .f32 (extsi 32 A (by decide))) (sitofp .f32 (extsi 32 B (by decide))))

theorem refY_at (i : S4096x8192.Idx) :
    refY A B s t i = (((dotZ A B ⟨(i 0).val, (i 0).isLt⟩ ⟨(i 1).val, (i 1).isLt⟩ : ℤ) : ℝ) : EReal) * (s i1 * t i1) :=
  (scaled_at s t _ i).trans (congrArg (fun z : EReal => z * (s i1 * t i1)) (refDot_at A B i))

/-- The reference's last step at one place. -/
theorem last_at (Y : FVec Ideal S4096x8192 .f32) (i : S4096x8192.Idx) :
    Host.divf Y (addf (broadcastInDim S4096x8192 ![] Cert.ReferenceIdeal.Gen.facts.bcast_S_S4096x8192
      (constant (F := Ideal) Cert.ReferenceIdeal.S_ .f32 0x3F800000#32)) (Host.exp (Host.negf Y))) i
      = Ideal.div (Y i) (1 + Ideal.exp (-(Y i))) :=
  congrArg (fun o : EReal => Ideal.div (Y i) (o + Ideal.exp (-(Y i)))) Ideal.ofBits_one_f32

/-- What the reference program computes is `refV`. -/
theorem ref_eq :
    Host.divf (refY A B s t) (addf (broadcastInDim S4096x8192 ![] Cert.ReferenceIdeal.Gen.facts.bcast_S_S4096x8192
      (constant (F := Ideal) Cert.ReferenceIdeal.S_ .f32 0x3F800000#32)) (Host.exp (Host.negf (refY A B s t)))) = refV A B s t := by
  funext i
  rw [last_at, refY_at]
  unfold refV outAt
  with_reducible rfl

end Reference

/-- Each device's result is its block of the reference's. -/
theorem out_block (m : (ℓ : Loc nD τ sig) → Buf (Elt Ideal) ℓ) (hpre : Cert.Pre_KernelIdeal_small_KernelIdeal m)
    (A : Cert.ReferenceIdeal.S4096x4096.Idx → BitVec 8) (B : Cert.ReferenceIdeal.S4096x8192.Idx → BitVec 8) (s t : S1.Idx → EReal)
    (h0 : ∀ c : Dev nD, m ((c : Thread nD τ).loc main_arg0) = Layout.block ⟨2, ![1024, 4096]⟩ ⟨2, ![4096, 4096]⟩ 0 4 c A)
    (h1 : ∀ c : Dev nD, m ((c : Thread nD τ).loc main_arg1) = Layout.block ⟨2, ![4096, 2048]⟩ ⟨2, ![4096, 8192]⟩ 1 4 c B)
    (h2 : ∀ c : Dev nD, m ((c : Thread nD τ).loc main_arg2) = s) (h3 : ∀ c : Dev nD, m ((c : Thread nD τ).loc main_arg3) = t) (c : Dev nD) :
    outC m c = Layout.block ⟨2, ![4096, 2048]⟩ ⟨2, ![4096, 8192]⟩ 1 4 c (refV A B s t) := by
  suffices key : ∀ (r : Fin 4096) (q : Fin 2048),
      outC m c (ix2 r q) = Layout.block ⟨2, ![4096, 2048]⟩ ⟨2, ![4096, 8192]⟩ 1 4 c (refV A B s t) (by decide) (ix2 r q) by
    funext i
    have hi : i = ix2 (n0 := 4096) (n1 := 2048) (i 0) (i 1) := by
      funext a; match a with | ⟨0, _⟩ => rfl | ⟨1, _⟩ => rfl
    rw [hi]; exact key _ _
  intro r q
  rw [outC_at m hpre, scl_eq m c s t (h2 c) (h3 c)]
  unfold refV Layout.block
  refine congrArg (outAt · _) ?_
  unfold dotZ
  refine Finset.sum_congr rfl fun k _ => ?_
  rw [h0, h1]
  refine congrArg₂ (fun a b : BitVec 8 => a.toInt * b.toInt) (congrArg A (funext fun a => Fin.ext ?_)) (congrArg B (funext fun a => Fin.ext ?_))
  · match a with
    | ⟨0, _⟩ => show r.val / 1024 * 1024 + r.val % 1024 = r.val; omega
    | ⟨1, _⟩ => rfl
  · match a with
    | ⟨0, _⟩ => rfl
    | ⟨1, _⟩ => rfl

end Cert.AllGather

end
-- ==== Proof.lean ====
/-
# The certificate: the frames, `preserves` and `algebraic`

Both frames of the kernel are its one run (`Run.lean`) with the values dropped; the float kernel and the kernel over the reals
have one text, so the second is the same run at another kind of float. `algebraic` is the run over the reals, whose result
`Value.lean` shows to be each device's block of the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_small_KernelIdeal
public import proofs.«01_k».proof.Proof.Gen.Pre_small_ReferenceIdeal
public import proofs.«01_k».proof.Proof.Run
public import proofs.«01_k».proof.Proof.Value
public import Idealize.ShloMosaic.Adequacy
public import Idealize.ShloMosaic.Init

@[expose] public section

noncomputable section

namespace Cert.Proof

open Idealize.ShloMosaic Idealize.SL.Sem Cert.AllGather

/-- The two kernels' bodies have one text. -/
theorem bodies_eq : Cert.Kernel.defs₀ (F := Bits) = Cert.KernelIdeal.defs₀ (F := Bits) := by
  funext p l a
  match p with
  | .tc =>
    match l, a with
    | 0, (t, s) => rfl
  | .scScalar _ => rfl
  | .scVector _ _ => rfl

theorem defs_eq : Cert.Kernel.defs (F := Bits) = Cert.KernelIdeal.defs (F := Bits) :=
  congrArg (Pipeline.defs (Cert.KernelIdeal.pcfgs (F := Bits))) bodies_eq

theorem frame_kernel : Cert.quiescent_Kernel := fun m ρ _ =>
  (congrArg (fun D => θ_run D (onTc (Cert.KernelIdeal.main (F := Bits))) ⟨m, fun _ => 0, ρ⟩ _) defs_eq).mpr
    ((θ_run (Cert.KernelIdeal.defs (F := Bits)) _ _).mono (fun _ h => ⟨fun c => (h.1 c).2, h.2⟩) (run_main (F := Bits) m ρ))

theorem frame_ideal : Cert.quiescent_KernelIdeal := fun m ρ _ =>
  (θ_run Cert.KernelIdeal.defs _ _).mono (fun _ h => ⟨fun c => (h.1 c).2, h.2⟩) (run_main (F := Ideal) m ρ)

theorem frame_ideal_small : Cert.quiescent_KernelIdeal_pre_small_KernelIdeal := fun m ρ _ => frame_ideal m ρ trivial

/-- The reference has no semaphore, so every counter is zero. -/
theorem no_counters {T : Type} (f g : GSem Cert.ReferenceIdeal.nD Cert.ReferenceIdeal.τ Cert.ReferenceIdeal.sig → T) : f = g :=
  funext fun ⟨_, sm⟩ => by
    cases sm with
    | reg s => exact s.elim0
    | dma s => exact s.elim0

theorem frame_reference : Cert.quiescent_ReferenceIdeal := fun m ρ _ =>
  (θ_run Cert.ReferenceIdeal.defs _ _).mono (fun _ h => ⟨fun c => (h c).2, no_counters _ _⟩) (Cert.ReferenceIdeal.Value.run (F := Ideal) m ρ)

theorem frame_reference_small : Cert.quiescent_ReferenceIdeal_pre_small_ReferenceIdeal := fun m ρ _ => frame_reference m ρ trivial

theorem equal_over_reals : Cert.algebraic_KernelIdeal_ReferenceIdeal_pre_small_KernelIdeal := fun m ρ m' ρ' hpre hin => by
  refine ⟨_, (θ_run Cert.KernelIdeal.defs _ _).mono (fun _ h c => ⟨(h.1 c).1.trans (out_block m hpre _ _ _ _
      (fun c => (hin c).1) (fun c => (hin c).2.1) (fun c => (hin c).2.2.1) (fun c => (hin c).2.2.2) c), (h.1 c).2⟩) (run_main (F := Ideal) m ρ), ?_⟩
  exact (θ_run Cert.ReferenceIdeal.defs _ _).mono (fun _ h => ⟨(h 0).1.trans (ref_eq _ _ _ _), (h 0).2⟩)
    (Cert.ReferenceIdeal.Value.run (F := Ideal) m' ρ')

theorem claim : Cert.Claim :=
  ⟨Cert.Kernel.Gen.facts, Cert.KernelIdeal.Gen.facts, Cert.ReferenceIdeal.Gen.facts, Cert.Pre_small_KernelIdeal.Gen.facts,
    Cert.Pre_small_ReferenceIdeal.Gen.facts, frame_kernel, frame_ideal, frame_ideal_small, frame_reference, frame_reference_small,
    trivial, equal_over_reals⟩

end Cert.Proof

end
